-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_margins_finite [hPre_margins_finite : Cert.Pre_margins_finite.Facts] (m : (ℓ : Loc Cert.KernelIdeal.nD Cert.KernelIdeal.τ Cert.KernelIdeal.sig) → Buf (Elt Ideal) ℓ) : Prop :=
  ∀ c : Dev Cert.KernelIdeal.nD,
    (Cert.Pre_margins_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_margins_finite [hPre_margins_finite : Cert.Pre_margins_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_margins_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_margins_finite [hKernelIdeal : Cert.KernelIdeal.Facts] [hPre_margins_finite : Cert.Pre_margins_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_margins_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_margins_finite [hReferenceIdeal : Cert.ReferenceIdeal.Facts] [hPre_margins_finite : Cert.Pre_margins_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_margins_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_margins_finite [hKernelIdeal : Cert.KernelIdeal.Facts] [hReferenceIdeal : Cert.ReferenceIdeal.Facts] [hPre_margins_finite : Cert.Pre_margins_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_margins_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_margins_finite : Cert.Pre_margins_finite.Facts),
    quiescent_Kernel (hKernel := hKernel)
    ∧ quiescent_KernelIdeal (hKernelIdeal := hKernelIdeal)
    ∧ quiescent_KernelIdeal_pre_margins_finite (hKernelIdeal := hKernelIdeal) (hPre_margins_finite := hPre_margins_finite)
    ∧ quiescent_ReferenceIdeal (hReferenceIdeal := hReferenceIdeal)
    ∧ quiescent_ReferenceIdeal_pre_margins_finite (hReferenceIdeal := hReferenceIdeal) (hPre_margins_finite := hPre_margins_finite)
    ∧ preserves_Kernel_KernelIdeal
    ∧ algebraic_KernelIdeal_ReferenceIdeal_pre_margins_finite (hKernelIdeal := hKernelIdeal) (hReferenceIdeal := hReferenceIdeal) (hPre_margins_finite := hPre_margins_finite)
-- ==== Pre_margins_finite.lean ====
abbrev S1048576x8 : Shape := ⟨2, ![1048576, 8]⟩
abbrev S8x32 : Shape := ⟨2, ![8, 32]⟩
abbrev S32 : Shape := ⟨1, ![32]⟩
abbrev S32x16 : Shape := ⟨2, ![32, 16]⟩
abbrev S16 : Shape := ⟨1, ![16]⟩
abbrev S16x9 : Shape := ⟨2, ![16, 9]⟩
abbrev S9 : Shape := ⟨1, ![9]⟩
abbrev S_ : Shape := ⟨0, ![]⟩

class Facts : Prop where
  bcast_S_S1048576x8 : S_.BroadcastsInDim S1048576x8 (![] : Fin 0 → Fin S1048576x8.rank)

variable [Facts]

def fn {F : FTy → Type} [FloatOps F] (main_arg0 : FVec F S1048576x8 .f32) (main_arg1 : FVec F S8x32 .f32) (main_arg2 : FVec F S32 .f32) (main_arg3 : FVec F S32x16 .f32) (main_arg4 : FVec F S16 .f32) (main_arg5 : FVec F S16x9 .f32) (main_arg6 : FVec F S9 .f32) : IVec S1048576x8 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  main_v2
-- ==== Kernel.lean ====
abbrev S1048576x8 : Shape := ⟨2, ![1048576, 8]⟩
abbrev S8x32 : Shape := ⟨2, ![8, 32]⟩
abbrev S32 : Shape := ⟨1, ![32]⟩
abbrev S32x16 : Shape := ⟨2, ![32, 16]⟩
abbrev S16 : Shape := ⟨1, ![16]⟩
abbrev S16x9 : Shape := ⟨2, ![16, 9]⟩
abbrev S9 : Shape := ⟨1, ![9]⟩
abbrev S8x1048576 : Shape := ⟨2, ![8, 1048576]⟩
abbrev S32x8 : Shape := ⟨2, ![32, 8]⟩
abbrev S32x1 : Shape := ⟨2, ![32, 1]⟩
abbrev S32x9 : Shape := ⟨2, ![32, 9]⟩
abbrev S16x32 : Shape := ⟨2, ![16, 32]⟩
abbrev S16x1 : Shape := ⟨2, ![16, 1]⟩
abbrev S16x33 : Shape := ⟨2, ![16, 33]⟩
abbrev S9x16 : Shape := ⟨2, ![9, 16]⟩
abbrev S9x1 : Shape := ⟨2, ![9, 1]⟩
abbrev S9x17 : Shape := ⟨2, ![9, 17]⟩
abbrev S4x4x1048576 : Shape := ⟨3, ![4, 4, 1048576]⟩
abbrev S8192x128 : Shape := ⟨2, ![8192, 128]⟩
abbrev S8x16384 : Shape := ⟨2, ![8, 16384]⟩
abbrev S4x4x16384 : Shape := ⟨3, ![4, 4, 16384]⟩
abbrev S128x128 : Shape := ⟨2, ![128, 128]⟩
abbrev S1x16384 : Shape := ⟨2, ![1, 16384]⟩
abbrev S9x16384 : Shape := ⟨2, ![9, 16384]⟩
abbrev S32x16384 : Shape := ⟨2, ![32, 16384]⟩
abbrev S33x16384 : Shape := ⟨2, ![33, 16384]⟩
abbrev S16x16384 : Shape := ⟨2, ![16, 16384]⟩
abbrev S17x16384 : Shape := ⟨2, ![17, 16384]⟩
abbrev S8x128 : Shape := ⟨2, ![8, 128]⟩
abbrev S1x128 : Shape := ⟨2, ![1, 128]⟩
abbrev S4x128 : Shape := ⟨2, ![4, 128]⟩
abbrev S1x4x128 : Shape := ⟨3, ![1, 4, 128]⟩
abbrev S1048576x4x4 : Shape := ⟨3, ![1048576, 4, 4]⟩
abbrev S1048576 : Shape := ⟨1, ![1048576]⟩

abbrev nBuf : Space → Nat
  | .hbm => 21
  | .vmem => 9
  | .smem => 0
  | _ => 0

abbrev bufTy : (tb : Table) → Fin (tcTables nBuf tb) → BufTy
  | .hbm, ⟨0, _⟩ => ⟨S1048576x8, .f32⟩
  | .hbm, ⟨1, _⟩ => ⟨S8x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S16x9, .f32⟩
  | .hbm, ⟨6, _⟩ => ⟨S9, .f32⟩
  | .hbm, ⟨7, _⟩ => ⟨S8x1048576, .f32⟩
  | .hbm, ⟨8, _⟩ => ⟨S32x8, .f32⟩
  | .hbm, ⟨9, _⟩ => ⟨S32x1, .f32⟩
  | .hbm, ⟨10, _⟩ => ⟨S32x9, .f32⟩
  | .hbm, ⟨11, _⟩ => ⟨S16x32, .f32⟩
  | .hbm, ⟨12, _⟩ => ⟨S16x1, .f32⟩
  | .hbm, ⟨13, _⟩ => ⟨S16x33, .f32⟩
  | .hbm, ⟨14, _⟩ => ⟨S9x16, .f32⟩
  | .hbm, ⟨15, _⟩ => ⟨S9x1, .f32⟩
  | .hbm, ⟨16, _⟩ => ⟨S9x17, .f32⟩
  | .hbm, ⟨17, _⟩ => ⟨S4x4x1048576, .f32⟩
  | .hbm, ⟨18, _⟩ => ⟨S8192x128, .f32⟩
  | .hbm, ⟨19, _⟩ => ⟨S1048576x4x4, .f32⟩
  | .hbm, ⟨20, _⟩ => ⟨S1048576, .f32⟩
  | .local _ .vmem, ⟨0, _⟩ => ⟨S8x16384, .f32⟩
  | .local _ .vmem, ⟨1, _⟩ => ⟨S8x16384, .f32⟩
  | .local _ .vmem, ⟨2, _⟩ => ⟨S32x9, .f32⟩
  | .local _ .vmem, ⟨3, _⟩ => ⟨S16x33, .f32⟩
  | .local _ .vmem, ⟨4, _⟩ => ⟨S9x17, .f32⟩
  | .local _ .vmem, ⟨5, _⟩ => ⟨S4x4x16384, .f32⟩
  | .local _ .vmem, ⟨6, _⟩ => ⟨S4x4x16384, .f32⟩
  | .local _ .vmem, ⟨7, _⟩ => ⟨S128x128, .f32⟩
  | .local _ .vmem, ⟨8, _⟩ => ⟨S128x128, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_86 : BitVec 32 := 0#32
  let c10_i32 : BitVec 32 := 10#32
  let v229 : BitVec 32 := Scalar.addi c0_i32_86 c10_i32
  let c1_i32_87 : BitVec 32 := 1#32
  ⟨c0_i32_86, v229, c1_i32_87⟩
@[reducible] def k0_t2_loop : Scf.Loop 32 :=
  let c0_i32_317 : BitVec 32 := 0#32
  let c10_i32_318 : BitVec 32 := 10#32
  let v697 : BitVec 32 := Scalar.addi c0_i32_317 c10_i32_318
  let c1_i32_319 : BitVec 32 := 1#32
  ⟨c0_i32_317, v697, c1_i32_319⟩
@[reducible] def k0_t3_loop : Scf.Loop 32 :=
  let c0_i32_550 : BitVec 32 := 0#32
  let c10_i32_551 : BitVec 32 := 10#32
  let v1165 : BitVec 32 := Scalar.addi c0_i32_550 c10_i32_551
  let c1_i32_552 : BitVec 32 := 1#32
  ⟨c0_i32_550, v1165, c1_i32_552⟩
@[reducible] def k0_t4_loop : Scf.Loop 32 :=
  let c0_i32_783 : BitVec 32 := 0#32
  let c10_i32_784 : BitVec 32 := 10#32
  let v1633 : BitVec 32 := Scalar.addi c0_i32_783 c10_i32_784
  let c1_i32_785 : BitVec 32 := 1#32
  ⟨c0_i32_783, v1633, c1_i32_785⟩
@[reducible] def k0_t5_loop : Scf.Loop 32 :=
  let c0_i32_1016 : BitVec 32 := 0#32
  let c10_i32_1017 : BitVec 32 := 10#32
  let v2101 : BitVec 32 := Scalar.addi c0_i32_1016 c10_i32_1017
  let c1_i32_1018 : BitVec 32 := 1#32
  ⟨c0_i32_1016, v2101, c1_i32_1018⟩
@[reducible] def k0_t6_loop : Scf.Loop 32 :=
  let c0_i32_1249 : BitVec 32 := 0#32
  let c10_i32_1250 : BitVec 32 := 10#32
  let v2569 : BitVec 32 := Scalar.addi c0_i32_1249 c10_i32_1250
  let c1_i32_1251 : BitVec 32 := 1#32
  ⟨c0_i32_1249, v2569, c1_i32_1251⟩
@[reducible] def k0_t7_loop : Scf.Loop 32 :=
  let c0_i32_1482 : BitVec 32 := 0#32
  let c10_i32_1483 : BitVec 32 := 10#32
  let v3037 : BitVec 32 := Scalar.addi c0_i32_1482 c10_i32_1483
  let c1_i32_1484 : BitVec 32 := 1#32
  ⟨c0_i32_1482, v3037, c1_i32_1484⟩
@[reducible] def k0_t8_loop : Scf.Loop 32 :=
  let c0_i32_1715 : BitVec 32 := 0#32
  let c10_i32_1716 : BitVec 32 := 10#32
  let v3505 : BitVec 32 := Scalar.addi c0_i32_1715 c10_i32_1716
  let c1_i32_1717 : BitVec 32 := 1#32
  ⟨c0_i32_1715, v3505, c1_i32_1717⟩
@[reducible] def k0_t9_loop : Scf.Loop 32 :=
  let c0_i32_1948 : BitVec 32 := 0#32
  let c10_i32_1949 : BitVec 32 := 10#32
  let v3973 : BitVec 32 := Scalar.addi c0_i32_1948 c10_i32_1949
  let c1_i32_1950 : BitVec 32 := 1#32
  ⟨c0_i32_1948, v3973, c1_i32_1950⟩
@[reducible] def k0_t10_loop : Scf.Loop 32 :=
  let c0_i32_2181 : BitVec 32 := 0#32
  let c10_i32_2182 : BitVec 32 := 10#32
  let v4441 : BitVec 32 := Scalar.addi c0_i32_2181 c10_i32_2182
  let c1_i32_2183 : BitVec 32 := 1#32
  ⟨c0_i32_2181, v4441, c1_i32_2183⟩
@[reducible] def k0_t11_loop : Scf.Loop 32 :=
  let c0_i32_2414 : BitVec 32 := 0#32
  let c10_i32_2415 : BitVec 32 := 10#32
  let v4909 : BitVec 32 := Scalar.addi c0_i32_2414 c10_i32_2415
  let c1_i32_2416 : BitVec 32 := 1#32
  ⟨c0_i32_2414, v4909, c1_i32_2416⟩
@[reducible] def k0_t12_loop : Scf.Loop 32 :=
  let c0_i32_2647 : BitVec 32 := 0#32
  let c10_i32_2648 : BitVec 32 := 10#32
  let v5377 : BitVec 32 := Scalar.addi c0_i32_2647 c10_i32_2648
  let c1_i32_2649 : BitVec 32 := 1#32
  ⟨c0_i32_2647, v5377, c1_i32_2649⟩
@[reducible] def k0_t13_loop : Scf.Loop 32 :=
  let c0_i32_2880 : BitVec 32 := 0#32
  let c10_i32_2881 : BitVec 32 := 10#32
  let v5845 : BitVec 32 := Scalar.addi c0_i32_2880 c10_i32_2881
  let c1_i32_2882 : BitVec 32 := 1#32
  ⟨c0_i32_2880, v5845, c1_i32_2882⟩
@[reducible] def k0_t14_loop : Scf.Loop 32 :=
  let c0_i32_3113 : BitVec 32 := 0#32
  let c10_i32_3114 : BitVec 32 := 10#32
  let v6313 : BitVec 32 := Scalar.addi c0_i32_3113 c10_i32_3114
  let c1_i32_3115 : BitVec 32 := 1#32
  ⟨c0_i32_3113, v6313, c1_i32_3115⟩
@[reducible] def k0_t15_loop : Scf.Loop 32 :=
  let c0_i32_3346 : BitVec 32 := 0#32
  let c10_i32_3347 : BitVec 32 := 10#32
  let v6781 : BitVec 32 := Scalar.addi c0_i32_3346 c10_i32_3347
  let c1_i32_3348 : BitVec 32 := 1#32
  ⟨c0_i32_3346, v6781, c1_i32_3348⟩
@[reducible] def k0_t16_loop : Scf.Loop 32 :=
  let c0_i32_3579 : BitVec 32 := 0#32
  let c10_i32_3580 : BitVec 32 := 10#32
  let v7249 : BitVec 32 := Scalar.addi c0_i32_3579 c10_i32_3580
  let c1_i32_3581 : BitVec 32 := 1#32
  ⟨c0_i32_3579, v7249, c1_i32_3581⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x33 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x17 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x4x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1048576x8 : Shape := ⟨2, ![1048576, 8]⟩
abbrev S8x32 : Shape := ⟨2, ![8, 32]⟩
abbrev S32 : Shape := ⟨1, ![32]⟩
abbrev S32x16 : Shape := ⟨2, ![32, 16]⟩
abbrev S16 : Shape := ⟨1, ![16]⟩
abbrev S16x9 : Shape := ⟨2, ![16, 9]⟩
abbrev S9 : Shape := ⟨1, ![9]⟩
abbrev S1048576x3 : Shape := ⟨2, ![1048576, 3]⟩
abbrev S1048576x32 : Shape := ⟨2, ![1048576, 32]⟩
abbrev S1x32 : Shape := ⟨2, ![1, 32]⟩
abbrev S_ : Shape := ⟨0, ![]⟩
abbrev S1048576x16 : Shape := ⟨2, ![1048576, 16]⟩
abbrev S1x16 : Shape := ⟨2, ![1, 16]⟩
abbrev S1048576x9 : Shape := ⟨2, ![1048576, 9]⟩
abbrev S1x9 : Shape := ⟨2, ![1, 9]⟩
abbrev S1048576x4 : Shape := ⟨2, ![1048576, 4]⟩
abbrev S1048576x2x2 : Shape := ⟨3, ![1048576, 2, 2]⟩
abbrev S1048576x2x1 : Shape := ⟨3, ![1048576, 2, 1]⟩
abbrev S1048576x2 : Shape := ⟨2, ![1048576, 2]⟩
abbrev S1048576x1x2 : Shape := ⟨3, ![1048576, 1, 2]⟩
abbrev S1048576x1 : Shape := ⟨2, ![1048576, 1]⟩
abbrev S1048576 : Shape := ⟨1, ![1048576]⟩
abbrev S1048576x2x3 : Shape := ⟨3, ![1048576, 2, 3]⟩
abbrev S1048576x1x3 : Shape := ⟨3, ![1048576, 1, 3]⟩
abbrev S1048576x3x3 : Shape := ⟨3, ![1048576, 3, 3]⟩
abbrev S1048576x3x1 : Shape := ⟨3, ![1048576, 3, 1]⟩
abbrev S1048576x3x4 : Shape := ⟨3, ![1048576, 3, 4]⟩
abbrev S1048576x1x1 : Shape := ⟨3, ![1048576, 1, 1]⟩
abbrev S1048576x1x4 : Shape := ⟨3, ![1048576, 1, 4]⟩
abbrev S1048576x4x4 : Shape := ⟨3, ![1048576, 4, 4]⟩

abbrev nBuf : Space → Nat
  | .hbm => 131
  | .vmem => 0
  | .smem => 0
  | _ => 0

abbrev hbmTy0_0 (i : Nat) : BufTy := match i % 128 with
  | 0 => ⟨S1048576x8, .f32⟩
  | 1 => ⟨S8x32, .f32⟩
  | 2 => ⟨S32, .f32⟩
  | 3 => ⟨S32x16, .f32⟩
  | 4 => ⟨S16, .f32⟩
  | 5 => ⟨S16x9, .f32⟩
  | 6 => ⟨S9, .f32⟩
  | 7 => ⟨S1048576x3, .f32⟩
  | 8 => ⟨S1048576x3, .f32⟩
  | 9 => ⟨S1048576x32, .f32⟩
  | 10 => ⟨S1x32, .f32⟩
  | 11 => ⟨S1048576x32, .f32⟩
  | 12 => ⟨S1048576x32, .f32⟩
  | 13 => ⟨S_, .f32⟩
  | 14 => ⟨S1048576x32, .f32⟩
  | 15 => ⟨S1048576x32, .f32⟩
  | 16 => ⟨S1048576x16, .f32⟩
  | 17 => ⟨S1x16, .f32⟩
  | 18 => ⟨S1048576x16, .f32⟩
  | 19 => ⟨S1048576x16, .f32⟩
  | 20 => ⟨S_, .f32⟩
  | 21 => ⟨S1048576x16, .f32⟩
  | 22 => ⟨S1048576x16, .f32⟩
  | 23 => ⟨S1048576x9, .f32⟩
  | 24 => ⟨S1x9, .f32⟩
  | 25 => ⟨S1048576x9, .f32⟩
  | 26 => ⟨S1048576x9, .f32⟩
  | 27 => ⟨S1048576x4, .f32⟩
  | 28 => ⟨S1048576x4, .f32⟩
  | 29 => ⟨S1048576x2x2, .f32⟩
  | 30 => ⟨S1048576x2x1, .f32⟩
  | 31 => ⟨S1048576x2, .f32⟩
  | 32 => ⟨S1048576x2x1, .f32⟩
  | 33 => ⟨S1048576x2, .f32⟩
  | 34 => ⟨S1048576x2, .f32⟩
  | 35 => ⟨S1048576x2, .f32⟩
  | 36 => ⟨S1048576x1x2, .f32⟩
  | 37 => ⟨S1048576x2, .f32⟩
  | 38 => ⟨S1048576x1x2, .f32⟩
  | 39 => ⟨S1048576x2, .f32⟩
  | 40 => ⟨S1048576x2, .f32⟩
  | 41 => ⟨S1048576x2, .f32⟩
  | 42 => ⟨S1048576x1, .f32⟩
  | 43 => ⟨S1048576, .f32⟩
  | 44 => ⟨S1048576x1, .f32⟩
  | 45 => ⟨S1048576, .f32⟩
  | 46 => ⟨S1048576, .f32⟩
  | 47 => ⟨S1048576, .f32⟩
  | 48 => ⟨S1048576x2x1, .f32⟩
  | 49 => ⟨S1048576x2x3, .f32⟩
  | 50 => ⟨S1048576x1, .f32⟩
  | 51 => ⟨S1048576x3, .f32⟩
  | 52 => ⟨S1048576x1x3, .f32⟩
  | 53 => ⟨S1048576x3x3, .f32⟩
  | 54 => ⟨S1048576x2, .f32⟩
  | 55 => ⟨S1048576x2, .f32⟩
  | 56 => ⟨S1048576x2, .f32⟩
  | 57 => ⟨S_, .f32⟩
  | 58 => ⟨S1048576x2, .f32⟩
  | 59 => ⟨S1048576x2, .f32⟩
  | 60 => ⟨S_, .f32⟩
  | 61 => ⟨S1048576x2, .f32⟩
  | 62 => ⟨S1048576x2, .f32⟩
  | 63 => ⟨S_, .f32⟩
  | 64 => ⟨S1048576x2, .f32⟩
  | 65 => ⟨S1048576x2, .f32⟩
  | 66 => ⟨S_, .f32⟩
  | 67 => ⟨S1048576x2, .f32⟩
  | 68 => ⟨S1048576x2, .f32⟩
  | 69 => ⟨S1048576x2, .f32⟩
  | 70 => ⟨S1048576x2, .f32⟩
  | 71 => ⟨S1048576x2, .f32⟩
  | 72 => ⟨S_, .f32⟩
  | 73 => ⟨S1048576x2, .f32⟩
  | 74 => ⟨S1048576x2, .f32⟩
  | 75 => ⟨S_, .f32⟩
  | 76 => ⟨S1048576x2, .f32⟩
  | 77 => ⟨S1048576x2, .f32⟩
  | 78 => ⟨S_, .f32⟩
  | 79 => ⟨S1048576x2, .f32⟩
  | 80 => ⟨S1048576x2, .f32⟩
  | 81 => ⟨S_, .f32⟩
  | 82 => ⟨S1048576x2, .f32⟩
  | 83 => ⟨S1048576x2, .f32⟩
  | 84 => ⟨S1048576x1, .f32⟩
  | 85 => ⟨S1048576, .f32⟩
  | 86 => ⟨S1048576, .f32⟩
  | 87 => ⟨S_, .f32⟩
  | 88 => ⟨S1048576x1, .f32⟩
  | 89 => ⟨S1048576x3, .f32⟩
  | 90 => ⟨S1048576x3, .f32⟩
  | 91 => ⟨S1048576x3, .f32⟩
  | 92 => ⟨S1048576x3, .f32⟩
  | 93 => ⟨S_, .f32⟩
  | 94 => ⟨S1048576x3, .f32⟩
  | 95 => ⟨S1048576x3, .f32⟩
  | 96 => ⟨S1048576x3, .f32⟩
  | 97 => ⟨S_, .f32⟩
  | 98 => ⟨S1048576x3, .f32⟩
  | 99 => ⟨S1048576x3, .f32⟩
  | 100 => ⟨S1048576x3, .f32⟩
  | 101 => ⟨S1048576x3x1, .f32⟩
  | 102 => ⟨S1048576x1x3, .f32⟩
  | 103 => ⟨S_, .i32⟩
  | 104 => ⟨S1048576x3x1, .f32⟩
  | 105 => ⟨S1048576x1x3, .f32⟩
  | 106 => ⟨S_, .i32⟩
  | 107 => ⟨S1048576x3x3, .f32⟩
  | 108 => ⟨S_, .i32⟩
  | 109 => ⟨S_, .i1⟩
  | 110 => ⟨S_, .f32⟩
  | 111 => ⟨S1048576x3, .f32⟩
  | 112 => ⟨S1048576x3x1, .f32⟩
  | 113 => ⟨S1048576x3x1, .f32⟩
  | 114 => ⟨S1048576x3x3, .f32⟩
  | 115 => ⟨S1048576x3x3, .f32⟩
  | 116 => ⟨S_, .f32⟩
  | 117 => ⟨S1048576x3, .f32⟩
  | 118 => ⟨S1048576x1x3, .f32⟩
  | 119 => ⟨S1048576x1x3, .f32⟩
  | 120 => ⟨S1048576x3x3, .f32⟩
  | 121 => ⟨S1048576x3x3, .f32⟩
  | 122 => ⟨S_, .i32⟩
  | 123 => ⟨S_, .i32⟩
  | 124 => ⟨S1048576x3x1, .f32⟩
  | 125 => ⟨S1048576x3x4, .f32⟩
  | 126 => ⟨S1048576x1x3, .f32⟩
  | 127 => ⟨S_, .f32⟩
  | _ => ⟨S1048576x8, .f32⟩

abbrev hbmTy0_1 (i : Nat) : BufTy := match i % 128 with
  | 0 => ⟨S1048576x1x1, .f32⟩
  | 1 => ⟨S1048576x1x4, .f32⟩
  | 2 => ⟨S1048576x4x4, .f32⟩
  | _ => ⟨S1048576x8, .f32⟩

abbrev hbmTy (i : Nat) : BufTy := match i / 128 with
  | 0 => hbmTy0_0 i
  | 1 => hbmTy0_1 i
  | _ => ⟨S1048576x8, .f32⟩

abbrev bufTy : (tb : Table) → Fin (tcTables nBuf tb) → BufTy
  | .hbm, ⟨i, _⟩ => hbmTy i
  | _, _ => ⟨S1048576x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst : Ref sig .tc := ⟨.hbm, 57, rfl⟩
abbrev main_v46 : Ref sig .tc := ⟨.hbm, 58, rfl⟩
abbrev main_v47 : Ref sig .tc := ⟨.hbm, 59, rfl⟩
abbrev main_cst_0 : Ref sig .tc := ⟨.hbm, 60, rfl⟩
abbrev main_v48 : Ref sig .tc := ⟨.hbm, 61, rfl⟩
abbrev main_v49 : Ref sig .tc := ⟨.hbm, 62, rfl⟩
abbrev main_cst_1 : Ref sig .tc := ⟨.hbm, 63, rfl⟩
abbrev main_v50 : Ref sig .tc := ⟨.hbm, 64, rfl⟩
abbrev main_v51 : Ref sig .tc := ⟨.hbm, 65, rfl⟩
abbrev main_cst_2 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_cst_5 : Ref sig .tc := ⟨.hbm, 78, rfl⟩
abbrev main_v61 : Ref sig .tc := ⟨.hbm, 79, rfl⟩
abbrev main_v62 : Ref sig .tc := ⟨.hbm, 80, rfl⟩
abbrev main_cst_6 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_7 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_8 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_9 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_c : Ref sig .tc := ⟨.hbm, 103, rfl⟩
abbrev main_v81_0 : Ref sig .tc := ⟨.hbm, 104, rfl⟩
abbrev main_v81_1 : Ref sig .tc := ⟨.hbm, 105, rfl⟩
abbrev main_v81_2 : Ref sig .tc := ⟨.hbm, 106, rfl⟩
abbrev main_v81_3 : Ref sig .tc := ⟨.hbm, 107, rfl⟩
abbrev main_while0c_c_14 : Ref sig .tc := ⟨.hbm, 108, rfl⟩
abbrev main_while0c_v88 : Ref sig .tc := ⟨.hbm, 109, rfl⟩
abbrev main_while0b_cst_14 : Ref sig .tc := ⟨.hbm, 110, rfl⟩
abbrev main_while0b_v88 : Ref sig .tc := ⟨.hbm, 111, rfl⟩
abbrev main_while0b_v89 : Ref sig .tc := ⟨.hbm, 112, rfl⟩
abbrev main_while0b_v90 : Ref sig .tc := ⟨.hbm, 113, rfl⟩
abbrev main_while0b_v91 : Ref sig .tc := ⟨.hbm, 114, rfl⟩
abbrev main_while0b_v92 : Ref sig .tc := ⟨.hbm, 115, rfl⟩
abbrev main_while0b_cst_15 : Ref sig .tc := ⟨.hbm, 116, rfl⟩
abbrev main_while0b_v93 : Ref sig .tc := ⟨.hbm, 117, rfl⟩
abbrev main_while0b_v94 : Ref sig .tc := ⟨.hbm, 118, rfl⟩
abbrev main_while0b_v95 : Ref sig .tc := ⟨.hbm, 119, rfl⟩
abbrev main_while0b_v96 : Ref sig .tc := ⟨.hbm, 120, rfl⟩
abbrev main_while0b_v97 : Ref sig .tc := ⟨.hbm, 121, rfl⟩
abbrev main_while0b_c_16 : Ref sig .tc := ⟨.hbm, 122, rfl⟩
abbrev main_while0b_v98 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_10 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩

abbrev nD : Nat := 1
abbrev τ : Topo := Topo.v7x

variable {F : FTy → Type} [FloatOps F]

abbrev main_while0_count : Scf.Loop 32 := ⟨0#32, 10#32, 1#32⟩
-- ==== Proof.Tile.lean ====
/- What one grid point of the kernel stores, written once for every tile.

   A grid point holds a block of 16384 lanes, worked on as 16 tiles of eight by 128 lanes. The parameters of the block
   come from one small network; a tile takes its 1024 lanes of them, brings them into eight-by-128 form by
   an exchange of rows between eight vectors, balances its three-by-three matrix ten times, exchanges the rows back and
   stores them. The definitions here say so over any float operations, with the tile's number as an argument. -/
module

public import proofs.«01_k».proof.Proof.Gen.KernelIdeal
public import Idealize.ShloMosaic.Lib.Writes
public import Idealize.ShloMosaic.Lib.Exec

@[expose] public section

noncomputable section

namespace Cert.Tile

open Idealize.ShloMosaic Cert.KernelIdeal

/-- Eight values of one kind. -/
structure Oct (α : Type) where
  a0 : α
  a1 : α
  a2 : α
  a3 : α
  a4 : α
  a5 : α
  a6 : α
  a7 : α

/-- The value of that number. -/
def Oct.get {α : Type} (v : Oct α) : Fin 8 → α :=
  ![v.a0, v.a1, v.a2, v.a3, v.a4, v.a5, v.a6, v.a7]

/-! ### The offsets are inside -/

theorem slices_params (o : ℕ) (h : o + 128 ≤ 16384) : S8x16384.Slices ![0, o] S8x128 :=
  ⟨rfl, fun a => by fin_cases a; exacts [le_refl 8, h]⟩

theorem slices_row (o : ℕ) (h : o + 128 ≤ 16384) : S1x16384.Slices ![0, o] S1x128 :=
  ⟨rfl, fun a => by fin_cases a; exacts [le_refl 1, h]⟩

theorem slices_half (r : ℕ) (h : r + 4 ≤ 8) : S8x128.Slices ![r, 0] S4x128 :=
  ⟨rfl, fun a => by fin_cases a; exacts [h, le_refl 128]⟩

theorem inb_store (q o : ℕ) (hq : q < 4) (ho : o + 128 ≤ 16384) :
    ∀ a, (![q, 0, o] : Fin 3 → ℕ) a + S1x4x128.size a ≤ S4x4x16384.size a := by
  intro a; fin_cases a
  · exact hq
  · exact le_refl 4
  · exact ho

theorem inb_rows (o : ℕ) (ho : o + 8 ≤ 128) :
    ∀ a, (![o, 0] : Fin 2 → ℕ) a + S8x128.size a ≤ S128x128.size a := by
  intro a; fin_cases a
  · exact ho
  · exact le_refl 128

variable {F : FTy → Type} [FloatOps F]

/-! ### The network -/

/-- A row of ones. -/
def ones : FVec F S1x16384 .f32 := broadcast S1x16384 (Scalar.ofBits .f32 0x3F800000#32)

/-- The nine parameters of the block: three products, the bias being the column that meets the row of ones. -/
def params (w1 : FVec F S32x9 .f32) (w2 : FVec F S16x33 .f32) (w3 : FVec F S9x17 .f32) (x : FVec F S8x16384 .f32) :
    FVec F S9x16384 .f32 :=
  have h1 : FVec F S32x16384 .f32 :=
    maximumf (matmul dot_S32x9_S9x16384_S32x16384_1_0_0_1_n_n none w1
      (concatenate S9x16384 0 [⟨S8x16384, x⟩, ⟨S1x16384, ones⟩] Gen.concatenates_S8x16384_S1x16384_S9x16384_d0) (constant S32x16384 .f32 0x00000000#32))
      (broadcast S32x16384 (Scalar.ofBits .f32 0x00000000#32))
  have h2 : FVec F S16x16384 .f32 :=
    maximumf (matmul dot_S16x33_S33x16384_S16x16384_1_0_0_1_n_n none w2
      (concatenate S33x16384 0 [⟨S32x16384, h1⟩, ⟨S1x16384, ones⟩] Gen.concatenates_S32x16384_S1x16384_S33x16384_d0) (constant S16x16384 .f32 0x00000000#32))
      (broadcast S16x16384 (Scalar.ofBits .f32 0x00000000#32))
  matmul dot_S9x17_S17x16384_S9x16384_1_0_0_1_n_n none w3
    (concatenate S17x16384 0 [⟨S16x16384, h2⟩, ⟨S1x16384, ones⟩] Gen.concatenates_S16x16384_S1x16384_S17x16384_d0) (constant S9x16384 .f32 0x00000000#32)

/-! ### The exchange -/

/-- The rows whose number lacks the bit `k`. -/
def lacks (k : BitVec 32) : IVec S8x128 1 :=
  cmpi .eq (andi (iota .tc S8x128 32 [0]) (broadcast S8x128 k)) (broadcast S8x128 0#32)

/-- The lower of two vectors after they exchange the rows that the bit `k` tells apart. -/
def lower (k : BitVec 32) (a b : FVec F S8x128 .f32) : FVec F S8x128 .f32 :=
  select (lacks k) a (dynamicRotate 0 k none b)

/-- The upper of the two; `u` is eight less `k`. -/
def upper (k u : BitVec 32) (a b : FVec F S8x128 .f32) : FVec F S8x128 .f32 :=
  select (lacks k) (dynamicRotate 0 u none a) b

/-- The exchange of neighbours. -/
def swap1 (v : Oct (FVec F S8x128 .f32)) : Oct (FVec F S8x128 .f32) :=
  ⟨lower 1#32 v.a0 v.a1, upper 1#32 7#32 v.a0 v.a1, lower 1#32 v.a2 v.a3, upper 1#32 7#32 v.a2 v.a3,
    lower 1#32 v.a4 v.a5, upper 1#32 7#32 v.a4 v.a5, lower 1#32 v.a6 v.a7, upper 1#32 7#32 v.a6 v.a7⟩

/-- The exchange between vectors two apart. -/
def swap2 (v : Oct (FVec F S8x128 .f32)) : Oct (FVec F S8x128 .f32) :=
  ⟨lower 2#32 v.a0 v.a2, lower 2#32 v.a1 v.a3, upper 2#32 6#32 v.a0 v.a2, upper 2#32 6#32 v.a1 v.a3,
    lower 2#32 v.a4 v.a6, lower 2#32 v.a5 v.a7, upper 2#32 6#32 v.a4 v.a6, upper 2#32 6#32 v.a5 v.a7⟩

/-- The exchange between vectors four apart. -/
def swap4 (v : Oct (FVec F S8x128 .f32)) : Oct (FVec F S8x128 .f32) :=
  ⟨lower 4#32 v.a0 v.a4, lower 4#32 v.a1 v.a5, lower 4#32 v.a2 v.a6, lower 4#32 v.a3 v.a7,
    upper 4#32 4#32 v.a0 v.a4, upper 4#32 4#32 v.a1 v.a5, upper 4#32 4#32 v.a2 v.a6, upper 4#32 4#32 v.a3 v.a7⟩

/-- All three exchanges: row `i` of vector `s` and row `s` of vector `i` change places. -/
def exchange (v : Oct (FVec F S8x128 .f32)) : Oct (FVec F S8x128 .f32) := swap4 (swap2 (swap1 v))

/-! ### A tile -/

/-- Eight neighbouring groups of 128 lanes of the parameters, from lane `s` on. -/
def paramCols (p : FVec F S9x16384 .f32) (s : ℕ) (h : s + 1024 ≤ 16384) : Oct (FVec F S8x128 .f32) :=
  have x : FVec F S8x16384 .f32 := extractStridedSlice S8x16384 ![0, 0] p
  ⟨extractStridedSlice S8x128 ![0, s] x (slices_params _ (by omega)),
    extractStridedSlice S8x128 ![0, s + 128] x (slices_params _ (by omega)),
    extractStridedSlice S8x128 ![0, s + 256] x (slices_params _ (by omega)),
    extractStridedSlice S8x128 ![0, s + 384] x (slices_params _ (by omega)),
    extractStridedSlice S8x128 ![0, s + 512] x (slices_params _ (by omega)),
    extractStridedSlice S8x128 ![0, s + 640] x (slices_params _ (by omega)),
    extractStridedSlice S8x128 ![0, s + 768] x (slices_params _ (by omega)),
    extractStridedSlice S8x128 ![0, s + 896] x (slices_params _ (by omega))⟩

/-- The ninth parameter of 1024 lanes, folded into eight rows. -/
def paramRow (p : FVec F S9x16384 .f32) (s : ℕ) (h : s + 1024 ≤ 16384) : FVec F S8x128 .f32 :=
  have x : FVec F S1x16384 .f32 := extractStridedSlice S1x16384 ![8, 0] p
  concatenate S8x128 0
    [⟨S1x128, extractStridedSlice S1x128 ![0, s] x (slices_row _ (by omega))⟩,
     ⟨S1x128, extractStridedSlice S1x128 ![0, s + 128] x (slices_row _ (by omega))⟩,
     ⟨S1x128, extractStridedSlice S1x128 ![0, s + 256] x (slices_row _ (by omega))⟩,
     ⟨S1x128, extractStridedSlice S1x128 ![0, s + 384] x (slices_row _ (by omega))⟩,
     ⟨S1x128, extractStridedSlice S1x128 ![0, s + 512] x (slices_row _ (by omega))⟩,
     ⟨S1x128, extractStridedSlice S1x128 ![0, s + 640] x (slices_row _ (by omega))⟩,
     ⟨S1x128, extractStridedSlice S1x128 ![0, s + 768] x (slices_row _ (by omega))⟩,
     ⟨S1x128, extractStridedSlice S1x128 ![0, s + 896] x (slices_row _ (by omega))⟩]
    Gen.concatenates_S1x128_S1x128_S1x128_S1x128_S1x128_S1x128_S1x128_S1x128_S8x128_d0

/-- Eight neighbouring groups of 128 lanes of the margins, from lane `s` on. -/
def marginCols (x : FVec F S8x16384 .f32) (s : ℕ) (h : s + 1024 ≤ 16384) : Oct (FVec F S8x128 .f32) :=
  ⟨extractStridedSlice S8x128 ![0, s] x (slices_params _ (by omega)),
    extractStridedSlice S8x128 ![0, s + 128] x (slices_params _ (by omega)),
    extractStridedSlice S8x128 ![0, s + 256] x (slices_params _ (by omega)),
    extractStridedSlice S8x128 ![0, s + 384] x (slices_params _ (by omega)),
    extractStridedSlice S8x128 ![0, s + 512] x (slices_params _ (by omega)),
    extractStridedSlice S8x128 ![0, s + 640] x (slices_params _ (by omega)),
    extractStridedSlice S8x128 ![0, s + 768] x (slices_params _ (by omega)),
    extractStridedSlice S8x128 ![0, s + 896] x (slices_params _ (by omega))⟩

/-- A share between 0.02 and 0.98. -/
def share (z : FVec F S8x128 .f32) : FVec F S8x128 .f32 :=
  addf (broadcast S8x128 (Scalar.ofBits .f32 0x3CA3D70A#32))
    (mulf (broadcast S8x128 (Scalar.ofBits .f32 0x3F75C28F#32))
      (divf (broadcast S8x128 (Scalar.ofBits .f32 0x3F800000#32))
        (addf (broadcast S8x128 (Scalar.ofBits .f32 0x3F800000#32))
          (exp (subf (broadcast S8x128 (Scalar.ofBits .f32 0x00000000#32)) z)))))

/-- The nine entries of a three-by-three matrix, row by row. -/
abbrev Nine (F : FTy → Type) : Type :=
  FVec F S8x128 .f32 × FVec F S8x128 .f32 × FVec F S8x128 .f32 × FVec F S8x128 .f32 × FVec F S8x128 .f32 ×
    FVec F S8x128 .f32 × FVec F S8x128 .f32 × FVec F S8x128 .f32 × FVec F S8x128 .f32

/-- The factor of a line of three entries that is to add up to `r`. -/
def factor (r a b c : FVec F S8x128 .f32) : FVec F S8x128 .f32 := divf r (addf (addf a b) c)

/-- The rows scaled to add up to `r`, then the columns to add up to `c`. -/
def balance (r0 r1 r2 c0 c1 c2 : FVec F S8x128 .f32) (a : Nine F) : Nine F :=
  have f0 := factor r0 a.1 a.2.1 a.2.2.1
  have f1 := factor r1 a.2.2.2.1 a.2.2.2.2.1 a.2.2.2.2.2.1
  have f2 := factor r2 a.2.2.2.2.2.2.1 a.2.2.2.2.2.2.2.1 a.2.2.2.2.2.2.2.2
  have b00 := mulf a.1 f0
  have b01 := mulf a.2.1 f0
  have b02 := mulf a.2.2.1 f0
  have b10 := mulf a.2.2.2.1 f1
  have b11 := mulf a.2.2.2.2.1 f1
  have b12 := mulf a.2.2.2.2.2.1 f1
  have b20 := mulf a.2.2.2.2.2.2.1 f2
  have b21 := mulf a.2.2.2.2.2.2.2.1 f2
  have b22 := mulf a.2.2.2.2.2.2.2.2 f2
  have g0 := factor c0 b00 b10 b20
  have g1 := factor c1 b01 b11 b21
  have g2 := factor c2 b02 b12 b22
  (mulf b00 g0, mulf b01 g1, mulf b02 g2, mulf b10 g0, mulf b11 g1, mulf b12 g2, mulf b20 g0, mulf b21 g1, mulf b22 g2)

/-- The matrix before the balancing. -/
def start (p : Oct (FVec F S8x128 .f32)) : Nine F :=
  have a00 := exp p.a0
  have a01 := exp p.a1
  have a10 := exp p.a2
  have a11 := exp p.a3
  have a20 := sqrt (mulf a00 a10)
  have a21 := sqrt (mulf a01 a11)
  (a00, a01, sqrt (mulf a00 a01), a10, a11, sqrt (mulf a10 a11), a20, a21, sqrt (mulf a20 a21))

/-- The sixteen results of a tile, the eight first and the eight last, from the folded parameters and margins. -/
def results (p m : Oct (FVec F S8x128 .f32)) : Oct (FVec F S8x128 .f32) × Oct (FVec F S8x128 .f32) :=
  have r0 := mulf m.a0 (share p.a4)
  have r1 := mulf m.a1 (share p.a5)
  have c0 := mulf m.a3 (share p.a6)
  have c1 := mulf m.a4 (share p.a7)
  have a : Nine F := Scf.fold (n := 10) (fun _ a => balance r0 r1 m.a2 c0 c1 m.a5 a) (start p)
  have z : FVec F S8x128 .f32 := broadcast S8x128 (Scalar.ofBits .f32 0x00000000#32)
  (⟨a.1, a.2.1, a.2.2.1, subf m.a0 r0, a.2.2.2.1, a.2.2.2.2.1, a.2.2.2.2.2.1, subf m.a1 r1⟩,
    ⟨a.2.2.2.2.2.2.1, a.2.2.2.2.2.2.2.1, a.2.2.2.2.2.2.2.2, z, subf m.a3 c0, subf m.a4 c1, z, z⟩)

/-- The results of the tile that starts at lane `s` of the parameters `p` and the margins `x`. -/
def tile (p : FVec F S9x16384 .f32) (x : FVec F S8x16384 .f32) (s : ℕ) (hs : s + 1024 ≤ 16384) :
    Oct (FVec F S8x128 .f32) × Oct (FVec F S8x128 .f32) :=
  results (exchange (paramCols p s hs)) (exchange (marginCols x s hs))

/-! ### What is stored -/

/-- A store of half a vector at row `q` and lane `o` of the first result's block. -/
def half (q o : ℕ) (hq : q < 4) (ho : o + 128 ≤ 16384) (r : ℕ) (hr : r + 4 ≤ 8) (v : FVec F S8x128 .f32) :
    View.Piece (Elt F) S4x4x16384 .f32 :=
  ⟨Rect.unit (s := S4x4x16384) ![q, 0, o] S1x4x128.size (inb_store q o hq ho),
    shapeCast S1x4x128 (extractStridedSlice S4x128 ![r, 0] v (slices_half r hr))⟩

/-- The four stores of 128 lanes, the last first. -/
def group (o : ℕ) (ho : o + 128 ≤ 16384) (a b : FVec F S8x128 .f32) (L : List (View.Piece (Elt F) S4x4x16384 .f32)) :
    List (View.Piece (Elt F) S4x4x16384 .f32) :=
  half 3 o (by omega) ho 4 (by omega) b :: half 2 o (by omega) ho 0 (by omega) b ::
    half 1 o (by omega) ho 4 (by omega) a :: half 0 o (by omega) ho 0 (by omega) a :: L

/-- The stores of a tile at lane `o`, from its exchanged results. -/
def tileStores (o : ℕ) (ho : o + 1024 ≤ 16384) (a b : Oct (FVec F S8x128 .f32))
    (L : List (View.Piece (Elt F) S4x4x16384 .f32)) : List (View.Piece (Elt F) S4x4x16384 .f32) :=
  group (o + 896) (by omega) a.a7 b.a7 <| group (o + 768) (by omega) a.a6 b.a6 <|
    group (o + 640) (by omega) a.a5 b.a5 <| group (o + 512) (by omega) a.a4 b.a4 <|
    group (o + 384) (by omega) a.a3 b.a3 <| group (o + 256) (by omega) a.a2 b.a2 <|
    group (o + 128) (by omega) a.a1 b.a1 <| group o (by omega) a.a0 b.a0 L

/-- The stores of the first `n` tiles into the first result's block, the last first. -/
def stores (p : FVec F S9x16384 .f32) (x : FVec F S8x16384 .f32) :
    (n : ℕ) → n ≤ 16 → List (View.Piece (Elt F) S4x4x16384 .f32)
  | 0, _ => []
  | n + 1, h =>
    have y := tile p x (n * 1024) (by omega)
    tileStores (n * 1024) (by omega) (exchange y.1) (exchange y.2) (stores p x n (by omega))

/-- The stores of the first `n` tiles into the second result's block, the last first. -/
def rowStores (p : FVec F S9x16384 .f32) : (n : ℕ) → n ≤ 16 → List (View.Piece (Elt F) S128x128 .f32)
  | 0, _ => []
  | n + 1, h =>
    ⟨Rect.unit (s := S128x128) ![n * 8, 0] S8x128.size (inb_rows _ (by omega)),
      exp (paramRow p (n * 1024) (by omega))⟩ :: rowStores p n (by omega)

end Cert.Tile

end
-- ==== Proof.Stored.lean ====
/- What the body stores: the pieces found by its run are the stores of Tile.lean, of the blocks it loads. -/
module

public import proofs.«01_k».proof.Proof.Tile
public import proofs.«01_k».proof.Proof.Gen.KernelIdeal.Frame

@[expose] public section

set_option maxRecDepth 16384

noncomputable section

namespace Cert.Tile

open Idealize.ShloMosaic Idealize.ShloMosaic.TcCoe Idealize.ShloMosaic.Tactic Cert.KernelIdeal Cert.KernelIdeal.Gen

variable {F : FTy → Type} [FloatOps F]

/-- The 512 stores into the first result's block. -/
theorem stores_run (c : Dev nD) (i : grid0.Coords) (arg1 : Memref sig .tc .vmem S8x16384 .f32) (harg1 : arg1.IsWhole)
    (arg2 : Memref sig .tc .vmem S32x9 .f32) (harg2 : arg2.IsWhole) (arg3 : Memref sig .tc .vmem S16x33 .f32) (harg3 : arg3.IsWhole)
    (arg4 : Memref sig .tc .vmem S9x17 .f32) (harg4 : arg4.IsWhole) (arg5 : Memref sig .tc .vmem S4x4x16384 .f32) (harg5 : arg5.IsWhole)
    (arg6 : Memref sig .tc .vmem S128x128 .f32) (harg6 : arg6.IsWhole)
    (x0 : Vec F S8x16384 .f32) (x1 : Vec F S32x9 .f32) (x2 : Vec F S16x33 .f32) (x3 : Vec F S9x17 .f32)  :
    (kernelRun0_A c i arg1 harg1 arg2 harg2 arg3 harg3 arg4 harg4 arg5 harg5 arg6 harg6
      x0 x1 x2 x3).1 =
      stores
        (params (shapeCast S32x9 (View.readAt (Elt F) arg2.view (Rect.unit ![0, 0] S32x9.size inb_S32x9_S32x9_0_0).toLoadRect (harg2.unread x1))
            shapeCasts_S32x9_S32x9)
          (shapeCast S16x33 (View.readAt (Elt F) arg3.view (Rect.unit ![0, 0] S16x33.size inb_S16x33_S16x33_0_0).toLoadRect (harg3.unread x2))
            shapeCasts_S16x33_S16x33)
          (shapeCast S9x17 (View.readAt (Elt F) arg4.view (Rect.unit ![0, 0] S9x17.size inb_S9x17_S9x17_0_0).toLoadRect (harg4.unread x3))
            shapeCasts_S9x17_S9x17)
          (shapeCast S8x16384 (View.readAt (Elt F) arg1.view (Rect.unit ![0, 0] S8x16384.size inb_S8x16384_S8x16384_0_0).toLoadRect (harg1.unread x0))
            shapeCasts_S8x16384_S8x16384))  (shapeCast S8x16384 (View.readAt (Elt F) arg1.view (Rect.unit ![0, 0] S8x16384.size inb_S8x16384_S8x16384_0_0).toLoadRect (harg1.unread x0))
            shapeCasts_S8x16384_S8x16384) 16 (by decide) := by
  sl_kernel_rfl

/-- The sixteen stores into the second result's block. -/
theorem rowStores_run (c : Dev nD) (i : grid0.Coords) (arg1 : Memref sig .tc .vmem S8x16384 .f32) (harg1 : arg1.IsWhole)
    (arg2 : Memref sig .tc .vmem S32x9 .f32) (harg2 : arg2.IsWhole) (arg3 : Memref sig .tc .vmem S16x33 .f32) (harg3 : arg3.IsWhole)
    (arg4 : Memref sig .tc .vmem S9x17 .f32) (harg4 : arg4.IsWhole) (arg5 : Memref sig .tc .vmem S4x4x16384 .f32) (harg5 : arg5.IsWhole)
    (arg6 : Memref sig .tc .vmem S128x128 .f32) (harg6 : arg6.IsWhole)
    (x0 : Vec F S8x16384 .f32) (x1 : Vec F S32x9 .f32) (x2 : Vec F S16x33 .f32) (x3 : Vec F S9x17 .f32)  :
    (kernelRun0_A c i arg1 harg1 arg2 harg2 arg3 harg3 arg4 harg4 arg5 harg5 arg6 harg6
      x0 x1 x2 x3).2.1 =
      rowStores
        (params (shapeCast S32x9 (View.readAt (Elt F) arg2.view (Rect.unit ![0, 0] S32x9.size inb_S32x9_S32x9_0_0).toLoadRect (harg2.unread x1))
            shapeCasts_S32x9_S32x9)
          (shapeCast S16x33 (View.readAt (Elt F) arg3.view (Rect.unit ![0, 0] S16x33.size inb_S16x33_S16x33_0_0).toLoadRect (harg3.unread x2))
            shapeCasts_S16x33_S16x33)
          (shapeCast S9x17 (View.readAt (Elt F) arg4.view (Rect.unit ![0, 0] S9x17.size inb_S9x17_S9x17_0_0).toLoadRect (harg4.unread x3))
            shapeCasts_S9x17_S9x17)
          (shapeCast S8x16384 (View.readAt (Elt F) arg1.view (Rect.unit ![0, 0] S8x16384.size inb_S8x16384_S8x16384_0_0).toLoadRect (harg1.unread x0))
            shapeCasts_S8x16384_S8x16384)) 16 (by decide) := by
  sl_kernel_rfl

end Cert.Tile

end
-- ==== Proof.Moves.lean ====
/- What the data movement of a tile does to one entry: the exchange transposes, the slices shift the lane. -/
module

public import proofs.«01_k».proof.Proof.Tile
public import Idealize.ShloMosaic.Lib.Pointwise

@[expose] public section

set_option maxRecDepth 16384

noncomputable section

namespace Cert.Tile

open Idealize.ShloMosaic Cert.KernelIdeal

variable {F : FTy → Type} [FloatOps F]

/-- The vector of that number, by its number. -/
theorem Oct.get_vals {α : Type} (v : Oct α) :
    v.get 0 = v.a0 ∧ v.get 1 = v.a1 ∧ v.get 2 = v.a2 ∧ v.get 3 = v.a3 ∧ v.get 4 = v.a4 ∧ v.get 5 = v.a5 ∧
      v.get 6 = v.a6 ∧ v.get 7 = v.a7 := ⟨rfl, rfl, rfl, rfl, rfl, rfl, rfl, rfl⟩

/-- The lower vector at row `s`: its own row where the bit is clear, else a row of the other. -/
theorem lower_apply (k : BitVec 32) (a b : FVec F S8x128 .f32) (s : Fin 8) (l : Fin 128) :
    lower k a b (ix2 s l) =
      if BitVec.ofNat 32 s.val &&& k = 0#32 then a (ix2 s l)
      else b (ix2 ⟨(s.val + 8 - k.toNat % 8) % 8, Nat.mod_lt _ (by decide)⟩ l) := by
  pointwise [lower, lacks]
  by_cases h : BitVec.ofNat 32 s.val &&& k = 0#32
  · simp [Scalar.select, IntOp.cmpi, IntOp.andi, h]
  · have hb := beq_eq_false_iff_ne.mpr h
    simp [Scalar.select, IntOp.cmpi, IntOp.andi, h, hb]

/-- The upper vector at row `s`. -/
theorem upper_apply (k u : BitVec 32) (a b : FVec F S8x128 .f32) (s : Fin 8) (l : Fin 128) :
    upper k u a b (ix2 s l) =
      if BitVec.ofNat 32 s.val &&& k = 0#32 then a (ix2 ⟨(s.val + 8 - u.toNat % 8) % 8, Nat.mod_lt _ (by decide)⟩ l)
      else b (ix2 s l) := by
  pointwise [upper, lacks]
  by_cases h : BitVec.ofNat 32 s.val &&& k = 0#32
  · simp [Scalar.select, IntOp.cmpi, IntOp.andi, h]
  · have hb := beq_eq_false_iff_ne.mpr h
    simp [Scalar.select, IntOp.cmpi, IntOp.andi, h, hb]

/-- The exchange transposes vectors and rows. -/
theorem exchange_get (v : Oct (FVec F S8x128 .f32)) (i s : Fin 8) (l : Fin 128) :
    (exchange v).get i (ix2 s l) = v.get s (ix2 i l) := by
  fin_cases i <;> fin_cases s <;>
    simp [exchange, swap4, swap2, swap1, Oct.get, lower_apply, upper_apply]

/-- The parameters' columns at an entry: row `k`, and the lane shifted by the group's. -/
theorem paramCols_get (p : FVec F S9x16384 .f32) (s : ℕ) (h : s + 1024 ≤ 16384) (c k : Fin 8) (l : Fin 128) :
    (paramCols p s h).get c (ix2 k l) = p (ix2 ⟨k.val, by omega⟩ ⟨s + c.val * 128 + l.val, by omega⟩) := by
  fin_cases c <;> pointwise [paramCols, Oct.get] <;> congr 2 <;> apply Fin.ext <;> simp <;> omega

/-- The margins' columns at an entry. -/
theorem marginCols_get (x : FVec F S8x16384 .f32) (s : ℕ) (h : s + 1024 ≤ 16384) (c k : Fin 8) (l : Fin 128) :
    (marginCols x s h).get c (ix2 k l) = x (ix2 k ⟨s + c.val * 128 + l.val, by omega⟩) := by
  fin_cases c <;> pointwise [marginCols, Oct.get] <;> congr 2 <;> apply Fin.ext <;> simp <;> omega

/-- The ninth parameter, folded, at an entry. -/
theorem paramRow_apply (p : FVec F S9x16384 .f32) (s : ℕ) (h : s + 1024 ≤ 16384) (c : Fin 8) (l : Fin 128) :
    paramRow p s h (ix2 c l) = p (ix2 8 ⟨s + c.val * 128 + l.val, by omega⟩) := by
  pointwise [paramRow]
  fin_vals c with hk
  all_goals simp only [hk, Nat.reduceSub, Nat.reduceLT, ↓reduceDIte]
  all_goals congr 2

end Cert.Tile

end
-- ==== Proof.Spec.lean ====
/- What the program computes of one lane, over the extended reals: the network's nine parameters, the matrix they start,
   the balancing, and the four-by-four table of results. -/
module

public import proofs.«01_k».proof.Proof.Moves

@[expose] public section

set_option maxRecDepth 16384

noncomputable section

namespace Cert.Tile

open Idealize.ShloMosaic Cert.KernelIdeal

/-! ### One lane -/

/-- A parameter of one lane: two hidden layers and the last product, each with its bias. -/
def netE (x : Fin 8 → EReal) (W1 : Fin 8 → Fin 32 → EReal) (b1 : Fin 32 → EReal) (W2 : Fin 32 → Fin 16 → EReal)
    (b2 : Fin 16 → EReal) (W3 : Fin 16 → Fin 9 → EReal) (b3 : Fin 9 → EReal) (k : Fin 9) : EReal :=
  ∑ j, max (∑ i, max (∑ a, x a * W1 a i + b1 i) 0 * W2 i j + b2 j) 0 * W3 j k + b3 k

/-- A share between 0.02 and 0.98. -/
def shareE (z : EReal) : EReal :=
  Ideal.ofBits .f32 0x3CA3D70A#32 + Ideal.ofBits .f32 0x3F75C28F#32 * Ideal.div 1 (1 + Ideal.exp (-z))

/-- The matrix before the balancing. -/
def startE (p : Fin 8 → EReal) : Fin 3 → Fin 3 → EReal :=
  ![![Ideal.exp (p 0), Ideal.exp (p 1), Ideal.sqrt (Ideal.exp (p 0) * Ideal.exp (p 1))],
    ![Ideal.exp (p 2), Ideal.exp (p 3), Ideal.sqrt (Ideal.exp (p 2) * Ideal.exp (p 3))],
    ![Ideal.sqrt (Ideal.exp (p 0) * Ideal.exp (p 2)), Ideal.sqrt (Ideal.exp (p 1) * Ideal.exp (p 3)),
      Ideal.sqrt (Ideal.sqrt (Ideal.exp (p 0) * Ideal.exp (p 2)) * Ideal.sqrt (Ideal.exp (p 1) * Ideal.exp (p 3)))]]

/-- The rows scaled to add up to `r`. -/
def scaleRows (r : Fin 3 → EReal) (A : Fin 3 → Fin 3 → EReal) : Fin 3 → Fin 3 → EReal :=
  fun i j => A i j * Ideal.div (r i) (∑ k, A i k)

/-- The columns scaled to add up to `c`. -/
def scaleCols (c : Fin 3 → EReal) (A : Fin 3 → Fin 3 → EReal) : Fin 3 → Fin 3 → EReal :=
  fun i j => A i j * Ideal.div (c j) (∑ k, A k j)

/-- One round: the rows, then the columns. -/
def balanceE (r c : Fin 3 → EReal) (A : Fin 3 → Fin 3 → EReal) : Fin 3 → Fin 3 → EReal := scaleCols c (scaleRows r A)

/-- The sums wanted of the rows. -/
def rowsE (x p : Fin 8 → EReal) : Fin 3 → EReal := ![x 0 * shareE (p 4), x 1 * shareE (p 5), x 2]

/-- The sums wanted of the columns. -/
def colsE (x p : Fin 8 → EReal) : Fin 3 → EReal := ![x 3 * shareE (p 6), x 4 * shareE (p 7), x 5]

/-- The balanced matrix. -/
def matE (x p : Fin 8 → EReal) : Fin 3 → Fin 3 → EReal := (balanceE (rowsE x p) (colsE x p))^[10] (startE p)

/-- The results of one lane, of its margins and its first eight parameters. -/
def outE (x p : Fin 8 → EReal) : Fin 4 → Fin 4 → EReal :=
  ![![matE x p 0 0, matE x p 0 1, matE x p 0 2, x 0 - x 0 * shareE (p 4)],
    ![matE x p 1 0, matE x p 1 1, matE x p 1 2, x 1 - x 1 * shareE (p 5)],
    ![matE x p 2 0, matE x p 2 1, matE x p 2 2, 0],
    ![x 3 - x 3 * shareE (p 6), x 4 - x 4 * shareE (p 7), 0, 0]]

/-! ### The tile at one entry -/

theorem share_apply (z : FVec Ideal S8x128 .f32) (s : Fin 8) (l : Fin 128) :
    share z (ix2 s l) = shareE (z (ix2 s l)) := by
  pointwise [share]
  show _ = shareE _
  unfold shareE
  rw [sub_eq_add_neg, zero_add]

/-- The matrix of one entry. -/
def Nine.at (a : Nine Ideal) (j : S8x128.Idx) : Fin 3 → Fin 3 → EReal :=
  ![![a.1 j, a.2.1 j, a.2.2.1 j], ![a.2.2.2.1 j, a.2.2.2.2.1 j, a.2.2.2.2.2.1 j],
    ![a.2.2.2.2.2.2.1 j, a.2.2.2.2.2.2.2.1 j, a.2.2.2.2.2.2.2.2 j]]

theorem start_at (p : Oct (FVec Ideal S8x128 .f32)) (s : Fin 8) (l : Fin 128) :
    (start p).at (ix2 s l) = startE fun k => p.get k (ix2 s l) := by
  funext i j
  fin_cases i <;> fin_cases j <;> pointwise [start, Nine.at, startE, Oct.get]

theorem balance_at (r0 r1 r2 c0 c1 c2 : FVec Ideal S8x128 .f32) (a : Nine Ideal) (s : Fin 8) (l : Fin 128) :
    (balance r0 r1 r2 c0 c1 c2 a).at (ix2 s l) =
      balanceE ![r0 (ix2 s l), r1 (ix2 s l), r2 (ix2 s l)] ![c0 (ix2 s l), c1 (ix2 s l), c2 (ix2 s l)] (a.at (ix2 s l)) := by
  funext i j
  fin_cases i <;> fin_cases j <;> pointwise [balance, factor, Nine.at, balanceE, scaleCols, scaleRows, Fin.sum_univ_three]

/-- A fold of equal steps, seen through a reading that turns the step into `h`, is `h` that often. -/
theorem fold_through {α β : Type} (f : α → β) (g : α → α) (h : β → β) (hg : ∀ a, f (g a) = h (f a)) (n : ℕ) (a : α) :
    f (Scf.fold (n := n) (fun _ a => g a) a) = h^[n] (f a) := by
  have key : ∀ (L : List (Fin n)) (a : α), f (L.foldl (fun acc _ => g acc) a) = h^[L.length] (f a) := by
    intro L
    induction L with
    | nil => intro a; rfl
    | cons x L ih => intro a; rw [List.foldl_cons, ih, hg]; rfl
  rw [Scf.fold_eq, key, List.length_finRange]

/-- The results of a tile at an entry. -/
theorem results_get (p m : Oct (FVec Ideal S8x128 .f32)) (k s : Fin 8) (l : Fin 128) :
    (results p m).1.get k (ix2 s l) =
        outE (fun k => m.get k (ix2 s l)) (fun k => p.get k (ix2 s l)) ⟨k.val / 4, by omega⟩ ⟨k.val % 4, by omega⟩ ∧
      (results p m).2.get k (ix2 s l) =
        outE (fun k => m.get k (ix2 s l)) (fun k => p.get k (ix2 s l)) ⟨2 + k.val / 4, by omega⟩ ⟨k.val % 4, by omega⟩ := by
  have hA := fold_through (fun a : Nine Ideal => a.at (ix2 s l))
    (balance (mulf m.a0 (share p.a4)) (mulf m.a1 (share p.a5)) m.a2 (mulf m.a3 (share p.a6)) (mulf m.a4 (share p.a7)) m.a5)
    _ (fun a => balance_at _ _ _ _ _ _ a s l) 10 (start p)
  rw [start_at] at hA
  have hr : ∀ a z : FVec Ideal S8x128 .f32, mulf a (share z) (ix2 s l) = a (ix2 s l) * shareE (z (ix2 s l)) :=
    fun a z => congrArg (a (ix2 s l) * ·) (share_apply z s l)
  simp only [hr] at hA
  have hM : ∀ i j, (Scf.fold (n := 10) (fun _ a => balance (mulf m.a0 (share p.a4)) (mulf m.a1 (share p.a5)) m.a2
      (mulf m.a3 (share p.a6)) (mulf m.a4 (share p.a7)) m.a5 a) (start p) : Nine Ideal).at (ix2 s l) i j =
      matE (fun k => m.get k (ix2 s l)) (fun k => p.get k (ix2 s l)) i j := fun i j => congrFun (congrFun hA i) j
  have hs : ∀ a z : FVec Ideal S8x128 .f32, subf a (mulf a (share z)) (ix2 s l) =
      a (ix2 s l) - a (ix2 s l) * shareE (z (ix2 s l)) := fun a z => congrArg (a (ix2 s l) - ·) (hr a z)
  have hz : (broadcast S8x128 (Scalar.ofBits .f32 0x00000000#32) : FVec Ideal S8x128 .f32) (ix2 s l) = 0 :=
    Ideal.ofBits_zero_f32
  constructor
  · fin_cases k
    exacts [hM 0 0, hM 0 1, hM 0 2, hs _ _, hM 1 0, hM 1 1, hM 1 2, hs _ _]
  · fin_cases k
    exacts [hM 2 0, hM 2 1, hM 2 2, hz, hs _ _, hs _ _, hz, hz]

/-- The tile's results, exchanged back, at an entry. -/
theorem tile_get (p : FVec Ideal S9x16384 .f32) (x : FVec Ideal S8x16384 .f32) (s : ℕ) (hs : s + 1024 ≤ 16384)
    (c k : Fin 8) (l : Fin 128) :
    (exchange (tile p x s hs).1).get c (ix2 k l) =
        outE (fun k => x (ix2 k ⟨s + c.val * 128 + l.val, by omega⟩))
          (fun k => p (ix2 ⟨k.val, by omega⟩ ⟨s + c.val * 128 + l.val, by omega⟩)) ⟨k.val / 4, by omega⟩ ⟨k.val % 4, by omega⟩ ∧
      (exchange (tile p x s hs).2).get c (ix2 k l) =
        outE (fun k => x (ix2 k ⟨s + c.val * 128 + l.val, by omega⟩))
          (fun k => p (ix2 ⟨k.val, by omega⟩ ⟨s + c.val * 128 + l.val, by omega⟩)) ⟨2 + k.val / 4, by omega⟩
            ⟨k.val % 4, by omega⟩ := by
  rw [exchange_get, exchange_get]
  have h := results_get (exchange (paramCols p s hs)) (exchange (marginCols x s hs)) k c l
  simp only [exchange_get, paramCols_get, marginCols_get] at h
  exact h

/-- The network's parameters at an entry, where the weights' last column is the bias. -/
theorem params_apply (w1 : FVec Ideal S32x9 .f32) (w2 : FVec Ideal S16x33 .f32) (w3 : FVec Ideal S9x17 .f32)
    (x : FVec Ideal S8x16384 .f32) (k : Fin 9) (l : Fin 16384) :
    params w1 w2 w3 x (ix2 k l) =
      netE (fun a => x (ix2 a l)) (fun a i => w1 (ix2 i ⟨a.val, by omega⟩)) (fun i => w1 (ix2 i 8))
        (fun i j => w2 (ix2 j ⟨i.val, by omega⟩)) (fun j => w2 (ix2 j 32)) (fun j k => w3 (ix2 k ⟨j.val, by omega⟩))
        (fun k => w3 (ix2 k 16)) k := by
  pointwise [params, ones]
  simp only [netE, Finset.univ_unique, Finset.sum_const, Finset.card_singleton, one_smul, mul_comm]

end Cert.Tile

end
-- ==== Proof.Stores.lean ====
/- The stores of a grid point, entry by entry: every one of them stores what its place is to hold. -/
module

public import proofs.«01_k».proof.Proof.Spec
public import Idealize.ShloMosaic.Lib.Pipeline.ValueKit.Geometry

@[expose] public section

set_option maxRecDepth 16384

noncomputable section

namespace Cert.Tile

open Idealize.ShloMosaic Cert.KernelIdeal

/-- What the first result's block is to hold at a place, of the parameters and the margins of the block. -/
def tableE (p : FVec Ideal S9x16384 .f32) (x : FVec Ideal S8x16384 .f32) (y : S4x4x16384.Idx) : EReal :=
  outE (fun k => x (ix2 k (y 2))) (fun k => p (ix2 ⟨k.val, by omega⟩ (y 2))) (y 0) (y 1)

/-- What the second result's block is to hold at a place. -/
def rowE (p : FVec Ideal S9x16384 .f32) (y : S128x128.Idx) : EReal :=
  Ideal.exp (p (ix2 8 ⟨(y 0).val * 128 + (y 1).val, by have := (y 0).isLt; have := (y 1).isLt; simp at *; omega⟩))

/-- A piece stores what `G` has at its place. -/
def Holds {s : Shape} (G : s.Idx → EReal) (pc : View.Piece (Elt Ideal) s .f32) : Prop :=
  ∀ x : pc.1.shape.Idx, pc.2 x = G (pc.1.emb x)

/-- Half a vector, at an entry. -/
theorem half_apply (q o : ℕ) (hq : q < 4) (ho : o + 128 ≤ 16384) (r : ℕ) (hr : r + 4 ≤ 8) (v : FVec Ideal S8x128 .f32)
    (x : S1x4x128.Idx) :
    (half q o hq ho r hr v).2 x = v (ix2 ⟨r + (x 1).val, by have := (x 1).isLt; simp at this; omega⟩ (x 2)) := by
  obtain ⟨i, a, l, rfl⟩ : ∃ i a l, x = ix3 i a l := ⟨_, _, _, eq_ix3 x⟩
  show shapeCast S1x4x128 (extractStridedSlice S4x128 ![r, 0] v (slices_half r hr)) (by decide) (ix3 i a l) = _
  pointwise

/-- The place of an entry of half a vector. -/
theorem half_place (q o : ℕ) (hq : q < 4) (ho : o + 128 ≤ 16384) (r : ℕ) (hr : r + 4 ≤ 8) (v : FVec Ideal S8x128 .f32)
    (x : S1x4x128.Idx) :
    (half q o hq ho r hr v).1.emb x =
      ix3 (n0 := 4) (n1 := 4) (n2 := 16384) ⟨q, hq⟩ (x 1) ⟨o + (x 2).val, by have := (x 2).isLt; simp at this; omega⟩ := by
  funext a
  apply Fin.ext
  have h0 : (x 0).val < 1 := (x 0).isLt
  refine (ValueKit.rect_emb_unit_val (s := S4x4x16384) ![q, 0, o] S1x4x128.size (inb_store q o hq ho) x a).trans ?_
  match a with
  | ⟨0, _⟩ => show q + (x 0).val = q; omega
  | ⟨1, _⟩ => show 0 + (x 1).val = (x 1).val; omega
  | ⟨2, _⟩ => rfl

/-- Half a vector whose rows are rows of the table stores what its place is to hold. -/
theorem half_holds (p : FVec Ideal S9x16384 .f32) (x : FVec Ideal S8x16384 .f32) (q o : ℕ) (hq : q < 4)
    (ho : o + 128 ≤ 16384) (r : ℕ) (hr : r + 4 ≤ 8) (v : FVec Ideal S8x128 .f32)
    (hv : ∀ (a : Fin 4) (l : Fin 128), v (ix2 ⟨r + a.val, by omega⟩ l) =
      tableE p x (ix3 (n0 := 4) (n1 := 4) (n2 := 16384) ⟨q, hq⟩ a ⟨o + l.val, by omega⟩)) :
    Holds (tableE p x) (half q o hq ho r hr v) := by
  intro y
  exact (half_apply q o hq ho r hr v y).trans
    ((hv (y 1) (y 2)).trans (congrArg (tableE p x) (half_place q o hq ho r hr v y)).symm)

/-- An entry of the table, by its row and column. -/
theorem table_at (p : FVec Ideal S9x16384 .f32) (x : FVec Ideal S8x16384 .f32) (i j q : Fin 4) (l : Fin 16384)
    (a : Fin 4) (hi : i = q) (hj : j = a) :
    outE (fun k => x (ix2 k l)) (fun k => p (ix2 ⟨k.val, by omega⟩ l)) i j =
      tableE p x (ix3 (n0 := 4) (n1 := 4) (n2 := 16384) q a l) := by
  subst hi hj; rfl

/-- The four stores of 128 lanes. -/
theorem group_holds (p : FVec Ideal S9x16384 .f32) (x : FVec Ideal S8x16384 .f32) (s : ℕ) (hs : s + 1024 ≤ 16384)
    (c : Fin 8) (o : ℕ) (e : o = s + c.val * 128) (ho : o + 128 ≤ 16384) (a b : FVec Ideal S8x128 .f32)
    (ha : a = (exchange (tile p x s hs).1).get c) (hb : b = (exchange (tile p x s hs).2).get c)
    (L : List (View.Piece (Elt Ideal) S4x4x16384 .f32)) (hL : ∀ pc ∈ L, Holds (tableE p x) pc) :
    ∀ pc ∈ group o ho a b L, Holds (tableE p x) pc := by
  subst e ha hb
  have h := fun k l => tile_get p x s hs c k l
  intro pc hpc
  simp only [group, List.mem_cons] at hpc
  rcases hpc with rfl | rfl | rfl | rfl | hpc
  · refine half_holds p x 3 _ (by omega) ho 4 (by omega) _ fun a l => (h ⟨4 + a.val, by omega⟩ l).2.trans ?_
    exact table_at p x _ _ _ _ a (Fin.ext (by dsimp only; omega)) (Fin.ext (by dsimp only; omega))
  · refine half_holds p x 2 _ (by omega) ho 0 (by omega) _ fun a l => (h ⟨0 + a.val, by omega⟩ l).2.trans ?_
    exact table_at p x _ _ _ _ a (Fin.ext (by dsimp only; omega)) (Fin.ext (by dsimp only; omega))
  · refine half_holds p x 1 _ (by omega) ho 4 (by omega) _ fun a l => (h ⟨4 + a.val, by omega⟩ l).1.trans ?_
    exact table_at p x _ _ _ _ a (Fin.ext (by dsimp only; omega)) (Fin.ext (by dsimp only; omega))
  · refine half_holds p x 0 _ (by omega) ho 0 (by omega) _ fun a l => (h ⟨0 + a.val, by omega⟩ l).1.trans ?_
    exact table_at p x _ _ _ _ a (Fin.ext (by dsimp only; omega)) (Fin.ext (by dsimp only; omega))
  · exact hL pc hpc

/-- Every store into the first result's block stores what its place is to hold. -/
theorem stores_hold (p : FVec Ideal S9x16384 .f32) (x : FVec Ideal S8x16384 .f32) :
    ∀ (n : ℕ) (hn : n ≤ 16), ∀ pc ∈ stores p x n hn, Holds (tableE p x) pc
  | 0, _ => fun _ h => absurd h List.not_mem_nil
  | n + 1, hn => by
    have ih := stores_hold p x n (by omega)
    have hs : n * 1024 + 1024 ≤ 16384 := by omega
    exact group_holds p x _ hs 7 _ rfl _ _ _ rfl rfl _ <| group_holds p x _ hs 6 _ rfl _ _ _ rfl rfl _ <|
      group_holds p x _ hs 5 _ rfl _ _ _ rfl rfl _ <| group_holds p x _ hs 4 _ rfl _ _ _ rfl rfl _ <|
      group_holds p x _ hs 3 _ rfl _ _ _ rfl rfl _ <| group_holds p x _ hs 2 _ rfl _ _ _ rfl rfl _ <|
      group_holds p x _ hs 1 _ rfl _ _ _ rfl rfl _ <| group_holds p x _ hs 0 _ (by simp) _ _ _ rfl rfl _ ih

/-- Every store into the second result's block stores what its place is to hold. -/
theorem rowStores_hold (p : FVec Ideal S9x16384 .f32) :
    ∀ (n : ℕ) (hn : n ≤ 16), ∀ pc ∈ rowStores p n hn, Holds (rowE p) pc
  | 0, _ => fun _ h => absurd h List.not_mem_nil
  | n + 1, hn => by
    intro pc hpc
    rcases List.mem_cons.mp hpc with rfl | hpc
    · intro y
      obtain ⟨c, l, rfl⟩ : ∃ c l, y = ix2 (n0 := 8) (n1 := 128) c l := ⟨_, _, eq_ix2 _⟩
      refine (congrArg Ideal.exp (paramRow_apply p (n * 1024) (by omega) c l)).trans ?_
      unfold rowE
      congr 3
      apply Fin.ext
      have e0 := ValueKit.rect_emb_unit_val (s := S128x128) ![n * 8, 0] S8x128.size (inb_rows _ (by omega)) (ix2 c l) 0
      have e1 := ValueKit.rect_emb_unit_val (s := S128x128) ![n * 8, 0] S8x128.size (inb_rows _ (by omega)) (ix2 c l) 1
      have e0' : ((Rect.unit (s := S128x128) ![n * 8, 0] S8x128.size (inb_rows _ (by omega))).emb (ix2 c l) 0).val =
        n * 8 + c.val := e0
      have e1' : ((Rect.unit (s := S128x128) ![n * 8, 0] S8x128.size (inb_rows _ (by omega))).emb (ix2 c l) 1).val =
        0 + l.val := e1
      show n * 1024 + c.val * 128 + l.val = _ * 128 + _
      rw [e0', e1']
      omega
    · exact rowStores_hold p n (by omega) pc hpc

end Cert.Tile

end
-- ==== Proof.Block.lean ====
/- What the body leaves in the two results' blocks over the extended reals, place by place. -/
module

public import proofs.«01_k».proof.Proof.Stored
public import proofs.«01_k».proof.Proof.Stores
public import Idealize.ShloMosaic.Lib.VecWindow

@[expose] public section

set_option maxRecDepth 16384

noncomputable section

namespace Cert.Tile

open Idealize.ShloMosaic Idealize.ShloMosaic.TcCoe Cert.KernelIdeal Cert.KernelIdeal.Gen

/-- A load of all of a buffer, recast to the shape it has, is what the buffer was given. -/
theorem whole_load {s : Shape} (a : Memref sig .tc .vmem s .f32) (ha : a.IsWhole) (x : Vec Ideal s .f32)
    (off : Fin s.rank → ℕ) (inb : ∀ k, off k + s.size k ≤ s.size k) (h : s.ShapeCasts s) :
    shapeCast s (View.readAt (Elt Ideal) a.view (Rect.unit off s.size inb).toLoadRect (ha.unread x)) h = x :=
  (shapeCast_self (View.readAt (Elt Ideal) a.view (Rect.unit off s.size inb).toLoadRect (ha.unread x)) h).trans
    ((View.readAt_full a.view _ inb).trans (ha.read_unread x))

variable (c : Dev nD) (i : grid0.Coords) (arg1 : Memref sig .tc .vmem S8x16384 .f32) (harg1 : arg1.IsWhole)
  (arg2 : Memref sig .tc .vmem S32x9 .f32) (harg2 : arg2.IsWhole) (arg3 : Memref sig .tc .vmem S16x33 .f32) (harg3 : arg3.IsWhole)
  (arg4 : Memref sig .tc .vmem S9x17 .f32) (harg4 : arg4.IsWhole) (arg5 : Memref sig .tc .vmem S4x4x16384 .f32) (harg5 : arg5.IsWhole)
  (arg6 : Memref sig .tc .vmem S128x128 .f32) (harg6 : arg6.IsWhole)
  (x0 : Vec Ideal S8x16384 .f32) (x1 : Vec Ideal S32x9 .f32) (x2 : Vec Ideal S16x33 .f32) (x3 : Vec Ideal S9x17 .f32)

theorem table_block (y : S4x4x16384.Idx) :
    out0_A_4 c i arg1 harg1 arg2 harg2 arg3 harg3 arg4 harg4 arg5 harg5 arg6 harg6 x0 x1 x2 x3 y =
      tableE (params x1 x2 x3 x0) x0 y := by
  refine View.read_writes_apply_of_pieces (Val := Elt Ideal) (v := VO0_4) _ (tableE (params x1 x2 x3 x0) x0) _ ?_ y (cover0_A_4 ..)
  rw [stores_run]
  rw [whole_load arg2 harg2, whole_load arg3 harg3, whole_load arg4 harg4, whole_load arg1 harg1]
  exact stores_hold _ _ _ _

theorem row_block (y : S128x128.Idx) :
    out0_A_5 c i arg1 harg1 arg2 harg2 arg3 harg3 arg4 harg4 arg5 harg5 arg6 harg6 x0 x1 x2 x3 y =
      rowE (params x1 x2 x3 x0) y := by
  refine View.read_writes_apply_of_pieces (Val := Elt Ideal) (v := VO0_5) _ (rowE (params x1 x2 x3 x0)) _ ?_ y (cover0_A_5 ..)
  rw [rowStores_run]
  rw [whole_load arg2 harg2, whole_load arg3 harg3, whole_load arg4 harg4, whole_load arg1 harg1]
  exact rowStores_hold _ _ _

end Cert.Tile

end
-- ==== Proof.Host.lean ====
/- What the operations before the launch leave: the transposed margins, and each weight matrix transposed with its bias as
   one more column. -/
module

public import proofs.«01_k».proof.Proof.Spec
public import proofs.«01_k».proof.Proof.Gen.KernelIdeal.Frame
public import Idealize.ShloMosaic.Lib.StableHlo.ReadAt

@[expose] public section

set_option maxRecDepth 16384

noncomputable section

namespace Cert.Tile

open Idealize.ShloMosaic Idealize.ShloMosaic.TcCoe Idealize.ShloMosaic.StableHlo Cert.KernelIdeal Cert.KernelIdeal.Gen

variable (U : Valuation τ sig (Elt Ideal))

theorem margins_host (a : Fin 8) (b : Fin 1048576) :
    (after hostOps0 U (Proc.devRef .tc main_v0) : FVec Ideal S8x1048576 .f32) (ix2 a b) =
      (U (Proc.devRef .tc main_arg0) (ix2 b a) : EReal) := by
  simp only [hostOps0]
  after_reads_at

theorem weights1_host (i : Fin 32) (a : Fin 8) :
    (after hostOps0 U (Proc.devRef .tc main_v3) : FVec Ideal S32x9 .f32) (ix2 i ⟨a.val, by omega⟩) =
      (U (Proc.devRef .tc main_arg1) (ix2 a i) : EReal) := by
  simp only [hostOps0]
  after_results
  pointwise

theorem bias1_host (i : Fin 32) :
    (after hostOps0 U (Proc.devRef .tc main_v3) : FVec Ideal S32x9 .f32) (ix2 i 8) =
      (U (Proc.devRef .tc main_arg2) (ix1 i) : EReal) := by
  simp only [hostOps0]
  after_results
  pointwise

theorem weights2_host (j : Fin 16) (i : Fin 32) :
    (after hostOps0 U (Proc.devRef .tc main_v6) : FVec Ideal S16x33 .f32) (ix2 j ⟨i.val, by omega⟩) =
      (U (Proc.devRef .tc main_arg3) (ix2 i j) : EReal) := by
  simp only [hostOps0]
  after_results
  pointwise

theorem bias2_host (j : Fin 16) :
    (after hostOps0 U (Proc.devRef .tc main_v6) : FVec Ideal S16x33 .f32) (ix2 j 32) =
      (U (Proc.devRef .tc main_arg4) (ix1 j) : EReal) := by
  simp only [hostOps0]
  after_results
  pointwise

theorem weights3_host (k : Fin 9) (j : Fin 16) :
    (after hostOps0 U (Proc.devRef .tc main_v9) : FVec Ideal S9x17 .f32) (ix2 k ⟨j.val, by omega⟩) =
      (U (Proc.devRef .tc main_arg5) (ix2 j k) : EReal) := by
  simp only [hostOps0]
  after_results
  pointwise

theorem bias3_host (k : Fin 9) :
    (after hostOps0 U (Proc.devRef .tc main_v9) : FVec Ideal S9x17 .f32) (ix2 k 16) =
      (U (Proc.devRef .tc main_arg6) (ix1 k) : EReal) := by
  simp only [hostOps0]
  after_results
  pointwise

/-- The operations after the launch: the lanes moved to the front. -/
theorem tables_host (b : Fin 1048576) (i j : Fin 4) :
    (after hostOps1 U (Proc.devRef .tc main_v11) : FVec Ideal S1048576x4x4 .f32) (ix3 b i j) =
      (U (Proc.devRef .tc main_v10_0) (ix3 i j b) : EReal) := by
  simp only [hostOps1]
  after_results
  pointwise

/-- The rows of the second result laid end to end. -/
theorem rows_host (b : Fin 1048576) :
    (after hostOps1 U (Proc.devRef .tc main_v12) : FVec Ideal S1048576 .f32) (ix1 b) =
      (U (Proc.devRef .tc main_v10_1) (ix2 ⟨b.val / 128, by omega⟩ ⟨b.val % 128, by omega⟩) : EReal) := by
  simp only [hostOps1]
  after_results
  pointwise

end Cert.Tile

end
-- ==== Proof.Arrays.lean ====
/- The two arrays of results after the launch, entry by entry: each point of the grid writes the block of its 16384 lanes. -/
module

public import proofs.«01_k».proof.Proof.Block
public import proofs.«01_k».proof.Proof.Host
public import Idealize.ShloMosaic.Lib.Pipeline.ValueKit.Geometry

@[expose] public section

set_option maxRecDepth 16384

noncomputable section

namespace Cert.Tile

open Idealize.ShloMosaic Idealize.ShloMosaic.TcCoe Idealize.ShloMosaic.StableHlo Cert.KernelIdeal Cert.KernelIdeal.Gen

variable (m : (ℓ : Loc nD τ sig) → Buf (Elt Ideal) ℓ) (c : Dev nD)

/-- The contents of a buffer at the start. -/
abbrev M (b : Ref sig .tc) : Buf (Elt Ideal) ((c.tc : Thread nD τ).loc b) := m ((c.tc : Thread nD τ).loc b)

/-- The margins of a lane. -/
def marginsK (b : Fin 1048576) (a : Fin 8) : EReal := M m c main_arg0 (ix2 b a)

/-- The parameters of a lane. -/
def paramsK (b : Fin 1048576) (k : Fin 9) : EReal :=
  netE (marginsK m c b) (fun a i => M m c main_arg1 (ix2 a i)) (fun i => M m c main_arg2 (ix1 i))
    (fun i j => M m c main_arg3 (ix2 i j)) (fun j => M m c main_arg4 (ix1 j))
    (fun j k => M m c main_arg5 (ix2 j k)) (fun k => M m c main_arg6 (ix1 k)) k

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0, t.val] := (by decide +kernel : ∀ t : Fin grid0.N, _)
theorem index5 : ∀ t : Fin cfg0.N, win0_5.index t = ![t.val, 0] := (by decide +kernel : ∀ t : Fin grid0.N, _)

/-- The lane of the batch that a lane of a block is. -/
def lane (t : Fin cfg0.N) (l : Fin 16384) : Fin 1048576 :=
  ⟨t.val * 16384 + l.val, by have h : t.val < 64 := t.isLt; omega⟩

theorem block0 (t : Fin cfg0.N) (a : Fin 8) (l : Fin 16384) :
    (iblk m c 0 t : FVec Ideal S8x16384 .f32) (ix2 a l) = marginsK m c (lane t l) a := by
  refine Eq.trans ?_ (margins_host (fun b => m (c, b)) a (lane t l))
  have e : ((cfg0.win 0).blk t).view.emb (ix2 a l) = (ix2 a (lane t l) : S8x1048576.Idx) := by
    blk_ext [index0, lane]
  show V m c main_v0 (((cfg0.win 0).blk t).view.emb (ix2 a l)) = _
  rw [e]
  rfl

theorem block1 (t : Fin cfg0.N) (y : S32x9.Idx) : (iblk m c 1 t : FVec Ideal S32x9 .f32) y = V m c main_v3 y := by
  have e : ((cfg0.win 1).blk t).view.emb y = y := by blk_ext [index1]
  show V m c main_v3 (((cfg0.win 1).blk t).view.emb y) = _
  rw [e]

theorem block2 (t : Fin cfg0.N) (y : S16x33.Idx) : (iblk m c 2 t : FVec Ideal S16x33 .f32) y = V m c main_v6 y := by
  have e : ((cfg0.win 2).blk t).view.emb y = y := by blk_ext [index2]
  show V m c main_v6 (((cfg0.win 2).blk t).view.emb y) = _
  rw [e]

theorem block3 (t : Fin cfg0.N) (y : S9x17.Idx) : (iblk m c 3 t : FVec Ideal S9x17 .f32) y = V m c main_v9 y := by
  have e : ((cfg0.win 3).blk t).view.emb y = y := by blk_ext [index3]
  show V m c main_v9 (((cfg0.win 3).blk t).view.emb y) = _
  rw [e]

/-- The parameters of a block's lane are those of the batch's. -/
theorem params_block (t : Fin cfg0.N) (k : Fin 9) (l : Fin 16384) :
    params (F := Ideal) (iblk m c 1 t) (iblk m c 2 t) (iblk m c 3 t) (iblk m c 0 t) (ix2 k l) = paramsK m c (lane t l) k := by
  rw [params_apply]
  unfold paramsK
  congr 1
  · funext a; exact block0 m c t a l
  · funext a i; exact (block1 m c t _).trans (weights1_host (fun b => m (c, b)) i a)
  · funext i; exact (block1 m c t _).trans (bias1_host (fun b => m (c, b)) i)
  · funext i j; exact (block2 m c t _).trans (weights2_host (fun b => m (c, b)) j i)
  · funext j; exact (block2 m c t _).trans (bias2_host (fun b => m (c, b)) j)
  · funext j k; exact (block3 m c t _).trans (weights3_host (fun b => m (c, b)) k j)
  · funext k; exact (block3 m c t _).trans (bias3_host (fun b => m (c, b)) k)

/-- The tables of all lanes. -/
def tablesK (y : S4x4x1048576.Idx) : EReal :=
  outE (marginsK m c (y 2)) (fun k => paramsK m c (y 2) ⟨k.val, by omega⟩) (y 0) (y 1)

/-- The second result of all lanes, in rows. -/
def rowsK (y : S8192x128.Idx) : EReal :=
  Ideal.exp (paramsK m c ⟨(y 0).val * 128 + (y 1).val, by
    have h0 : (y 0).val < 8192 := (y 0).isLt
    have h1 : (y 1).val < 128 := (y 1).isLt
    omega⟩ 8)

theorem tables_array : (dats m 0 c).arrAt 4 cfg0.N = tablesK m c := by
  refine (dats m 0 c).arrAt_eq_of_covers 4 _ (by decide +kernel) fun t _ y => ?_
  have e : ((cfg0.win 4).blk t).view.emb y = (ix3 (y 0) (y 1) (lane t (y 2)) : S4x4x1048576.Idx) := by
    blk_ext [index4, lane]
  rw [e]
  refine (congrFun (after0_4 m c t) y).trans ?_
  refine (table_block c (grid0.coords t) _ _ _ _ _ _ _ _ (ms0_4 t) (hs0_4 t) (ms0_5 t) (hs0_5 t) _ _ _ _ y).trans ?_
  show outE _ _ (y 0) (y 1) = outE (marginsK m c (lane t (y 2))) _ (y 0) (y 1)
  congr 1
  · funext k; exact block0 m c t k (y 2)
  · funext k; exact params_block m c t _ (y 2)

theorem rows_array : (dats m 0 c).arrAt 5 cfg0.N = rowsK m c := by
  refine (dats m 0 c).arrAt_eq_of_covers 5 _ (by decide +kernel) fun t _ y => ?_
  refine (congrFun (after0_5 m c t) y).trans ?_
  refine (row_block c (grid0.coords t) _ _ _ _ _ _ _ _ (ms0_4 t) (hs0_4 t) (ms0_5 t) (hs0_5 t) _ _ _ _ y).trans ?_
  have e : ((cfg0.win 5).blk t).view.emb y =
      (ix2 ⟨t.val * 128 + (y 0).val, by have h : t.val < 64 := t.isLt; have h0 : (y 0).val < 128 := (y 0).isLt; omega⟩ (y 1) :
        S8192x128.Idx) := by
    blk_ext [index5]
  rw [e]
  refine (congrArg Ideal.exp (params_block m c t 8 _)).trans ?_
  show Ideal.exp (paramsK m c _ 8) = Ideal.exp (paramsK m c _ 8)
  congr 2
  apply Fin.ext
  show t.val * 16384 + ((y 0).val * 128 + (y 1).val) = (t.val * 128 + (y 0).val) * 128 + (y 1).val
  omega

end Cert.Tile

end
-- ==== Proof.Results.lean ====
/- The kernel's run: its two results, entry by entry, and its arguments. -/
module

public import proofs.«01_k».proof.Proof.Arrays
public import Idealize.ShloMosaic.Lib.Claim

@[expose] public section

set_option maxRecDepth 16384

noncomputable section

namespace Cert.Tile

open Idealize.ShloMosaic Idealize.ShloMosaic.TcCoe Idealize.ShloMosaic.StableHlo Cert.KernelIdeal Cert.KernelIdeal.Gen

variable (m : (ℓ : Loc nD τ sig) → Buf (Elt Ideal) ℓ) (ρ : Dev nD → PrngReg) (c : Dev nD)

/-- The table of every lane. -/
def tableOut (y : S1048576x4x4.Idx) : EReal :=
  outE (marginsK m c (y 0)) (fun k => paramsK m c (y 0) ⟨k.val, by omega⟩) (y 1) (y 2)

/-- The value of every lane. -/
def valueOut (y : S1048576.Idx) : EReal := Ideal.exp (paramsK m c (y 0) 8)

/-- What the launch leaves in the buffers. -/
abbrev left : Valuation τ sig (Elt Ideal) :=
  Pipeline.withArrays (cfgs 0).spec c (V0 m c) fun w => (dats m 0 c).arrAt w (cfgs 0).N

theorem left_table : left m c (Proc.devRef .tc main_v10_0) = tablesK m c :=
  (Pipeline.withArrays_arr (cfgs 0).spec (by decide) c (V0 m c) _ 4).trans (tables_array m c)

theorem left_value : left m c (Proc.devRef .tc main_v10_1) = rowsK m c :=
  (Pipeline.withArrays_arr (cfgs 0).spec (by decide) c (V0 m c) _ 5).trans (rows_array m c)

theorem table_final : after hostOps1 (left m c) (Proc.devRef .tc main_v11) = tableOut m c := by
  funext y
  rw [eq_ix3 y]
  exact (tables_host (left m c) _ _ _).trans (congrFun (left_table m c) _)

theorem value_final : after hostOps1 (left m c) (Proc.devRef .tc main_v12) = valueOut m c := by
  funext y
  rw [eq_ix1 y]
  refine (rows_host (left m c) _).trans ((congrFun (left_value m c) _).trans ?_)
  unfold rowsK valueOut
  congr 2
  exact Fin.ext (Nat.div_add_mod' _ _)

/-- The kernel's run: the two results are what is computed of each lane. -/
theorem results_run : θ_run (defs (F := Ideal)) (onTc (τ := τ) (main (F := Ideal))) ⟨m, fun _ => 0, ρ⟩ (fun r => ∀ c : Dev nD,
    r.2.mem ((c.tc : Thread nD τ).loc main_v11) = tableOut m c ∧ r.2.mem ((c.tc : Thread nD τ).loc main_v12) = valueOut m c) :=
  (θ_run _ _ _).mono (fun _ h c =>
    ⟨(h.rest_eq c main_v11 (by decide)).trans (table_final m c),
      (h.rest_eq c main_v12 (by decide)).trans (value_final m c)⟩) (run_main m ρ)

end Cert.Tile

end
-- ==== Proof.RefFrame.lean ====
/- The reference runs, and what it does not write is as it was. -/
module

public import proofs.«01_k».proof.Proof.Gen.ReferenceIdeal.Run
public import Idealize.ShloMosaic.Lib.Quiescent

@[expose] public section

set_option maxRecDepth 16384

noncomputable section

namespace Cert.RefSide

open Idealize.ShloMosaic Idealize.ShloMosaic.TcCoe Idealize.ShloMosaic.StableHlo Idealize.SL.Sem
open Cert.ReferenceIdeal Cert.ReferenceIdeal.Value Cert.ReferenceIdeal.Gen

variable {F : FTy → Type} [FloatOps F]

/-- What the operations after the loop write. -/
abbrev postW : List (Ref sig .tc) := [main_v82, main_v83, main_v84, main_cst_10, main_v85, main_v86, main_v87]

theorem post_writes : (hostOps0_5 : List (HloOp τ sig (Elt F))).Forall fun op =>
    op.writes ⊆ (postW.map (Proc.devRef (τ := τ) .tc)).toFinset :=
  forall_writes_sub_of_map rfl

/-- What the operations before the loop write. -/
abbrev preW : List (Ref sig .tc) := hostOps0_W ++ hostOps0_1_W ++ hostOps0_2_W ++ hostOps0_3_W ++ hostOps0_4_W

theorem pre_keeps (X : Valuation τ sig (Elt F)) (r : Ref sig .tc) (h : r ∉ preW) :
    afterL preI X (Proc.devRef .tc r) = X (Proc.devRef .tc r) := by
  simp only [preW, List.mem_append, not_or] at h
  simp only [afterL_cons, afterL_nil]
  rw [after_of_writes_sub _ _ hostOps0_4_writes h.2, after_of_writes_sub _ _ hostOps0_3_writes h.1.2,
    after_of_writes_sub _ _ hostOps0_2_writes h.1.1.2, after_of_writes_sub _ _ hostOps0_1_writes h.1.1.1.2,
    after_of_writes_sub _ _ hostOps0_writes h.1.1.1.1]

variable (m : (ℓ : Loc nD τ sig) → Buf (Elt F) ℓ) (ρ : Dev nD → PrngReg) (c : Dev nD)

/-- What neither the condition nor the body of the loop writes is as it was before the loop. -/
theorem loop_keeps (r : Ref sig .tc) (hc : r ∉ condOps_W) (hb : r ∉ while0Ops0_W) :
    ∀ k, atK m k c (Proc.devRef .tc r) = entryContents preI m c (Proc.devRef .tc r)
  | 0 => rfl
  | k + 1 =>
    ((after_of_writes_sub while0Ops0 (after condOps (atK m k c)) while0Ops0_writes hb).trans
      (after_of_writes_sub condOps (atK m k c) condOps_writes hc)).trans (loop_keeps r hc hb k)

/-- What the operations after the loop find. -/
abbrev atEnd : Valuation τ sig (Elt F) := after condOps (atK m 10 c)

theorem final_eq : finalContents condOps preI bodyI postI 10 m c = after hostOps0_5 (atEnd m c) := rfl

theorem end_keeps (r : Ref sig .tc) (hc : r ∉ condOps_W) (hb : r ∉ while0Ops0_W) :
    atEnd m c (Proc.devRef .tc r) = entryContents preI m c (Proc.devRef .tc r) :=
  (after_of_writes_sub condOps _ condOps_writes hc).trans (loop_keeps m c r hc hb 10)

theorem final_keeps (r : Ref sig .tc) (hc : r ∉ condOps_W) (hb : r ∉ while0Ops0_W) (hp : r ∉ postW) :
    finalContents condOps preI bodyI postI 10 m c (Proc.devRef .tc r) = entryContents preI m c (Proc.devRef .tc r) :=
  (after_of_writes_sub hostOps0_5 _ post_writes hp).trans (end_keeps m c r hc hb)

/-- What is written nowhere ends as it began. -/
theorem final_same (r : Ref sig .tc) (h : r ∉ preW ++ condOps_W ++ while0Ops0_W ++ postW) :
    finalContents condOps preI bodyI postI 10 m c (Proc.devRef .tc r) = m ((c.tc : Thread nD τ).loc r) := by
  simp only [List.mem_append, not_or] at h
  exact (final_keeps m c r h.1.1.2 h.1.2 h.2).trans (pre_keeps _ r (by simpa only [preW, List.mem_append, not_or] using h.1.1.1))

/-- The arguments end as they began. -/
def Unchanged (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

/-- The reference's run: two results, the arguments, no counter. -/
theorem run : θ_run (defs (F := F)) (onTc (τ := τ) (main (F := F))) ⟨m, fun _ => 0, ρ⟩ (fun r =>
    (∀ c : Dev nD,
      r.2.mem ((c.tc : Thread nD τ).loc main_v87) = after hostOps0_5 (atEnd m c) (Proc.devRef .tc main_v87)
      ∧ r.2.mem ((c.tc : Thread nD τ).loc main_v67) = entryContents preI m c (Proc.devRef .tc main_v67))
    ∧ Unchanged m r ∧ r.2.sem = fun _ => 0) :=
  (θ_run _ _ _).mono (fun r h =>
    ⟨fun c => ⟨h c main_v87 (by decide), (h c main_v67 (by decide)).trans
        (final_keeps m c main_v67 (by decide +kernel) (by decide +kernel) (by decide +kernel))⟩,
      fun c => ⟨(h c main_arg0 (by decide)).trans (final_same m c _ (by decide +kernel)),
        (h c main_arg1 (by decide)).trans (final_same m c _ (by decide +kernel)),
        (h c main_arg2 (by decide)).trans (final_same m c _ (by decide +kernel)),
        (h c main_arg3 (by decide)).trans (final_same m c _ (by decide +kernel)),
        (h c main_arg4 (by decide)).trans (final_same m c _ (by decide +kernel)),
        (h c main_arg5 (by decide)).trans (final_same m c _ (by decide +kernel)),
        (h c main_arg6 (by decide)).trans (final_same m c _ (by decide +kernel))⟩,
      sem_eq_zero_of_no_sems (by decide) r.2⟩) (run_fold m ρ)

end Cert.RefSide

end
-- ==== Proof.RefRead.lean ====
/- What the reference's operations compute, entry by entry, over the extended reals. -/
module

public import proofs.«01_k».proof.Proof.Gen.ReferenceIdeal.Run
public import Idealize.ShloMosaic.Lib.StableHlo.ReadAt
public import Idealize.ShloMosaic.Lib.Pointwise
public import proofs.«01_k».proof.Proof.Spec

@[expose] public section

set_option maxRecDepth 16384

noncomputable section

namespace Cert.RefSide

open Idealize.ShloMosaic Idealize.ShloMosaic.StableHlo
open Cert.ReferenceIdeal Cert.ReferenceIdeal.Value Cert.ReferenceIdeal.Gen
open Cert.Tile (netE shareE startE scaleRows scaleCols balanceE)

/-- The operations that find the nine parameters of the rows. -/
abbrev headOps : List (HloOp τ sig (Elt Ideal)) := hostOps0_4.take 4

/-- The operations that go on with them. -/
abbrev tailOps : List (HloOp τ sig (Elt Ideal)) := hostOps0_4.drop 4

/-- The parameters of row `b`. -/
def parOf (V : Valuation τ sig (Elt Ideal)) (b : Fin 1048576) (k : Fin 9) : EReal :=
  (V (Proc.devRef .tc main_v15) : FVec Ideal S1048576x9 .f32) (ix2 b k)

/-- The margins of row `b` that the rows of its matrix add up to. -/
def rowOf (V : Valuation τ sig (Elt Ideal)) (b : Fin 1048576) (i : Fin 3) : EReal :=
  (V (Proc.devRef .tc main_v0) : FVec Ideal S1048576x3 .f32) (ix2 b i)

/-- The margins of row `b` that the columns of its matrix add up to. -/
def colOf (V : Valuation τ sig (Elt Ideal)) (b : Fin 1048576) (j : Fin 3) : EReal :=
  (V (Proc.devRef .tc main_v1) : FVec Ideal S1048576x3 .f32) (ix2 b j)

/-- The shares of a row with the last one left whole. -/
def sharesE (p q : EReal) : Fin 3 → EReal := ![shareE p, shareE q, 1]

/-- A three by three matrix, a last column and a last row, with 0 in the corner. -/
def layE (A : Fin 3 → Fin 3 → EReal) (r c : Fin 3 → EReal) : Fin 4 → Fin 4 → EReal :=
  ![![A 0 0, A 0 1, A 0 2, r 0], ![A 1 0, A 1 1, A 1 2, r 1], ![A 2 0, A 2 1, A 2 2, r 2], ![c 0, c 1, c 2, 0]]

section
variable (V : Valuation τ sig (Elt Ideal)) (b : Fin 1048576)

theorem start_read (i j : Fin 3) :
    (after tailOps V (Proc.devRef .tc main_v42) : FVec Ideal S1048576x3x3 .f32) (ix3 b i j) =
      (startE (fun k => parOf V b ⟨k.val, by omega⟩) i j : EReal) := by
  simp only [tailOps, hostOps0_4, List.drop]
  after_results
  clean_types
  fin_cases i <;> fin_cases j <;> pointwise [startE, parOf]

theorem first_read : (after tailOps V (Proc.devRef .tc main_v81_3) : FVec Ideal S1048576x3x3 .f32) =
    after tailOps V (Proc.devRef .tc main_v42) := by
  simp only [tailOps, hostOps0_4, List.drop]
  after_results
  rfl

theorem value_read : (after tailOps V (Proc.devRef .tc main_v67) : FVec Ideal S1048576 .f32) (ix1 b) =
    (Ideal.exp (parOf V b 8) : EReal) := by
  simp only [tailOps, hostOps0_4, List.drop]
  after_results
  clean_types
  pointwise [parOf]

theorem rowSums_read (i : Fin 3) :
    (after tailOps V (Proc.devRef .tc main_v81_0) : FVec Ideal S1048576x3x1 .f32) (ix3 b i 0) =
      (rowOf V b i * sharesE (parOf V b 4) (parOf V b 5) i : EReal) := by
  simp only [tailOps, hostOps0_4, List.drop]
  after_results
  clean_types
  rw [id_eq]
  fin_cases i <;> pointwise [parOf, rowOf, colOf, sharesE, shareE]

theorem colSums_read (j : Fin 3) :
    (after tailOps V (Proc.devRef .tc main_v81_1) : FVec Ideal S1048576x1x3 .f32) (ix3 b 0 j) =
      (colOf V b j * sharesE (parOf V b 6) (parOf V b 7) j : EReal) := by
  simp only [tailOps, hostOps0_4, List.drop]
  after_results
  clean_types
  rw [id_eq]
  fin_cases j <;> pointwise [parOf, rowOf, colOf, sharesE, shareE]

theorem rowRest_read (i : Fin 3) :
    (after tailOps V (Proc.devRef .tc main_v75) : FVec Ideal S1048576x3 .f32) (ix2 b i) =
      (rowOf V b i * (1 - sharesE (parOf V b 4) (parOf V b 5) i) : EReal) := by
  simp only [tailOps, hostOps0_4, List.drop]
  after_results
  clean_types
  fin_cases i <;> pointwise [parOf, rowOf, colOf, sharesE, shareE]

theorem colRest_read (j : Fin 3) :
    (after tailOps V (Proc.devRef .tc main_v78) : FVec Ideal S1048576x3 .f32) (ix2 b j) =
      (colOf V b j * (1 - sharesE (parOf V b 6) (parOf V b 7) j) : EReal) := by
  simp only [tailOps, hostOps0_4, List.drop]
  after_results
  clean_types
  fin_cases j <;> pointwise [parOf, rowOf, colOf, sharesE, shareE]

/-- What the loop carries and what is left beside it, laid out as the table. -/
theorem table_read (i j : Fin 4) :
    (after hostOps0_5 V (Proc.devRef .tc main_v87) : FVec Ideal S1048576x4x4 .f32) (ix3 b i j) =
      (layE (fun i j => (V (Proc.devRef .tc main_v81_3) : FVec Ideal S1048576x3x3 .f32) (ix3 b i j))
        (fun i => (V (Proc.devRef .tc main_v75) : FVec Ideal S1048576x3 .f32) (ix2 b i))
        (fun j => (V (Proc.devRef .tc main_v78) : FVec Ideal S1048576x3 .f32) (ix2 b j)) i j : EReal) := by
  simp only [hostOps0_5]
  after_results
  clean_types
  fin_cases i <;> fin_cases j <;> pointwise [layE]

/-- The parameters found are the network's. -/
theorem params_read (k : Fin 9) :
    parOf (after headOps (after hostOps0_3 (after hostOps0_2 (after hostOps0_1 (after hostOps0 V))))) b k =
      netE (fun a => (V (Proc.devRef .tc main_arg0) : FVec Ideal S1048576x8 .f32) (ix2 b a))
        (fun a i => (V (Proc.devRef .tc main_arg1) : FVec Ideal S8x32 .f32) (ix2 a i))
        (fun i => (V (Proc.devRef .tc main_arg2) : FVec Ideal S32 .f32) (ix1 i))
        (fun i j => (V (Proc.devRef .tc main_arg3) : FVec Ideal S32x16 .f32) (ix2 i j))
        (fun j => (V (Proc.devRef .tc main_arg4) : FVec Ideal S16 .f32) (ix1 j))
        (fun j k => (V (Proc.devRef .tc main_arg5) : FVec Ideal S16x9 .f32) (ix2 j k))
        (fun k => (V (Proc.devRef .tc main_arg6) : FVec Ideal S9 .f32) (ix1 k)) k := by
  unfold parOf netE
  simp only [headOps, List.take, hostOps0_4, hostOps0_3, hostOps0_2, hostOps0_1, hostOps0]
  after_reads_at

theorem rows_read (i : Fin 3) :
    rowOf (after headOps (after hostOps0_3 (after hostOps0_2 (after hostOps0_1 (after hostOps0 V))))) b i =
      (V (Proc.devRef .tc main_arg0) : FVec Ideal S1048576x8 .f32) (ix2 b ⟨i.val, by omega⟩) := by
  unfold rowOf
  simp only [headOps, List.take, hostOps0_4, hostOps0_3, hostOps0_2, hostOps0_1, hostOps0]
  after_results
  clean_types
  fin_cases i <;> pointwise

theorem cols_read (j : Fin 3) :
    colOf (after headOps (after hostOps0_3 (after hostOps0_2 (after hostOps0_1 (after hostOps0 V))))) b j =
      (V (Proc.devRef .tc main_arg0) : FVec Ideal S1048576x8 .f32) (ix2 b ⟨3 + j.val, by omega⟩) := by
  unfold colOf
  simp only [headOps, List.take, hostOps0_4, hostOps0_3, hostOps0_2, hostOps0_1, hostOps0]
  after_results
  clean_types
  fin_cases j <;> pointwise

end

/-! ### The loop -/

/-- The matrix of row `b` that the loop carries. -/
def carried (V : Valuation τ sig (Elt Ideal)) (b : Fin 1048576) (i j : Fin 3) : EReal :=
  (V (Proc.devRef .tc main_v81_3) : FVec Ideal S1048576x3x3 .f32) (ix3 b i j)

/-- The sums wanted of the rows, as the loop carries them. -/
def wantRows (V : Valuation τ sig (Elt Ideal)) (b : Fin 1048576) (i : Fin 3) : EReal :=
  (V (Proc.devRef .tc main_v81_0) : FVec Ideal S1048576x3x1 .f32) (ix3 b i 0)

/-- The sums wanted of the columns, as the loop carries them. -/
def wantCols (V : Valuation τ sig (Elt Ideal)) (b : Fin 1048576) (j : Fin 3) : EReal :=
  (V (Proc.devRef .tc main_v81_1) : FVec Ideal S1048576x1x3 .f32) (ix3 b 0 j)

theorem half_step (V : Valuation τ sig (Elt Ideal)) (b : Fin 1048576) (i j : Fin 3) :
    (res_main_while0b_v92 V : FVec Ideal S1048576x3x3 .f32) (ix3 b i j) =
      (scaleRows (wantRows V b) (carried V b) i j : EReal) := by
  unfold res_main_while0b_v92
  pointwise [scaleRows, wantRows, carried]

theorem whole_step (V : Valuation τ sig (Elt Ideal)) (b : Fin 1048576) (i j : Fin 3) :
    (step_main_v81_3 V : FVec Ideal S1048576x3x3 .f32) (ix3 b i j) =
      (scaleCols (wantCols V b) (fun i j => (res_main_while0b_v92 V : FVec Ideal S1048576x3x3 .f32) (ix3 b i j)) i j : EReal) := by
  unfold step_main_v81_3
  rw [id_eq]
  generalize res_main_while0b_v92 V = A
  pointwise [scaleCols, wantCols]

theorem carried_step (V : Valuation τ sig (Elt Ideal)) (b : Fin 1048576) :
    carried (STEP V) b = balanceE (wantRows V b) (wantCols V b) (carried V b) := by
  funext i j
  unfold carried
  rw [STEP_main_v81_3, whole_step]
  simp only [half_step]
  rfl

/-- After `n` trips the matrix is balanced `n` times, the sums wanted being the same throughout. -/
theorem carried_steps (V : Valuation τ sig (Elt Ideal)) (b : Fin 1048576) : ∀ n,
    wantRows (STEP^[n] V) b = wantRows V b ∧ wantCols (STEP^[n] V) b = wantCols V b ∧
      carried (STEP^[n] V) b = (balanceE (wantRows V b) (wantCols V b))^[n] (carried V b)
  | 0 => ⟨rfl, rfl, rfl⟩
  | n + 1 => by
    obtain ⟨hr, hc, hA⟩ := carried_steps V b n
    rw [Function.iterate_succ_apply', Function.iterate_succ_apply', carried_step, hr, hc, hA]
    refine ⟨?_, ?_, rfl⟩
    · rw [← hr]; unfold wantRows; rw [STEP_main_v81_0]
    · rw [← hc]; unfold wantCols; rw [STEP_main_v81_1]

end Cert.RefSide

end
-- ==== Proof.Lay.lean ====
/- The table of a lane as its balanced matrix and what the shares leave of the margins. -/
module

public import proofs.«01_k».proof.Proof.RefRead

@[expose] public section

set_option maxRecDepth 16384

noncomputable section

namespace Cert.RefSide

open Idealize.ShloMosaic
open Cert.Tile (shareE matE outE)

/-- A product by a share's complement, of a finite number: what the share leaves. -/
theorem mul_one_sub_share (x s : EReal) (ht : x ≠ ⊤) (hb : x ≠ ⊥) : x * (1 - s) = x - x * s := by
  lift x to ℝ using ⟨ht, hb⟩
  induction s using EReal.rec with
  | coe s =>
    rw [← EReal.coe_one, ← EReal.coe_sub, ← EReal.coe_mul, ← EReal.coe_mul, ← EReal.coe_sub, mul_one_sub]
  | bot =>
    rw [EReal.sub_bot (by exact EReal.coe_ne_bot 1)]
    rcases lt_trichotomy x 0 with h | h | h
    · rw [EReal.coe_mul_top_of_neg h, EReal.coe_mul_bot_of_neg h, EReal.sub_top]
    · subst h; simp
    · rw [EReal.coe_mul_top_of_pos h, EReal.coe_mul_bot_of_pos h, EReal.sub_bot (EReal.coe_ne_bot x)]
  | top =>
    rw [EReal.sub_top]
    rcases lt_trichotomy x 0 with h | h | h
    · rw [EReal.coe_mul_top_of_neg h, EReal.coe_mul_bot_of_neg h, EReal.sub_bot (EReal.coe_ne_bot x)]
    · subst h; simp
    · rw [EReal.coe_mul_top_of_pos h, EReal.coe_mul_bot_of_pos h, EReal.sub_top]

theorem one_sub_one : (1 : EReal) - 1 = 0 := by
  rw [← EReal.coe_one, ← EReal.coe_sub, sub_self, EReal.coe_zero]

/-- The table of a lane is its balanced matrix and what the shares leave. -/
theorem outE_eq (x p : Fin 8 → EReal) (ht : ∀ k, x k ≠ ⊤) (hb : ∀ k, x k ≠ ⊥) :
    outE x p = layE (matE x p) ![x 0 * (1 - shareE (p 4)), x 1 * (1 - shareE (p 5)), x 2 * (1 - 1)]
      ![x 3 * (1 - shareE (p 6)), x 4 * (1 - shareE (p 7)), x 5 * (1 - 1)] := by
  have hs : ∀ k s, x k * (1 - s) = x k - x k * s := fun k s => mul_one_sub_share _ _ (ht k) (hb k)
  unfold outE layE
  rw [one_sub_one, mul_zero, mul_zero, hs, hs, hs, hs]
  generalize matE x p = A
  simp only [Matrix.cons_val]

end Cert.RefSide

end
-- ==== Proof.RefValue.lean ====
/- The reference's two results, of its arguments: the balanced matrix with what is left of the margins, and the value. -/
module

public import proofs.«01_k».proof.Proof.RefFrame
public import proofs.«01_k».proof.Proof.Lay

@[expose] public section

set_option maxRecDepth 16384

noncomputable section

namespace Cert.RefSide

open Idealize.ShloMosaic Idealize.ShloMosaic.TcCoe Idealize.ShloMosaic.StableHlo
open Cert.ReferenceIdeal Cert.ReferenceIdeal.Value Cert.ReferenceIdeal.Gen
open Cert.Tile (netE shareE startE balanceE rowsE colsE matE outE)

variable (m : (ℓ : Loc nD τ sig) → Buf (Elt Ideal) ℓ) (c : Dev nD) (b : Fin 1048576)

/-- The contents of a buffer at the start. -/
abbrev M (r : Ref sig .tc) : Buf (Elt Ideal) ((c.tc : Thread nD τ).loc r) := m ((c.tc : Thread nD τ).loc r)

/-- The margins of a row. -/
def marginsR (a : Fin 8) : EReal := M m c main_arg0 (ix2 b a)

/-- The parameters of a row. -/
def paramsR (k : Fin 9) : EReal :=
  netE (marginsR m c b) (fun a i => M m c main_arg1 (ix2 a i)) (fun i => M m c main_arg2 (ix1 i))
    (fun i j => M m c main_arg3 (ix2 i j)) (fun j => M m c main_arg4 (ix1 j))
    (fun j k => M m c main_arg5 (ix2 j k)) (fun k => M m c main_arg6 (ix1 k)) k

/-- What is known once the parameters are. -/
abbrev head : Valuation τ sig (Elt Ideal) :=
  after headOps (after hostOps0_3 (after hostOps0_2 (after hostOps0_1 (after hostOps0 (launchContents m c)))))

theorem entry_eq : entryContents preI m c = after tailOps (head m c) := rfl

theorem head_params (k : Fin 9) : parOf (head m c) b k = paramsR m c b k := params_read (launchContents m c) b k

theorem head_rows (i : Fin 3) : rowOf (head m c) b i = marginsR m c b ⟨i.val, by omega⟩ := rows_read (launchContents m c) b i

theorem head_cols (j : Fin 3) : colOf (head m c) b j = marginsR m c b ⟨3 + j.val, by omega⟩ :=
  cols_read (launchContents m c) b j

theorem value_entry : (entryContents preI m c (Proc.devRef .tc main_v67) : FVec Ideal S1048576 .f32) (ix1 b) =
    (Ideal.exp (paramsR m c b 8) : EReal) := by
  rw [entry_eq, value_read, head_params]

/-- The first eight parameters of a row. -/
abbrev eight (k : Fin 8) : EReal := paramsR m c b ⟨k.val, by omega⟩

theorem entry_start : carried (entryContents preI m c) b = startE (eight m c b) := by
  funext i j
  refine (congrFun (first_read (head m c)) (ix3 b i j)).trans ((start_read (head m c) b i j).trans ?_)
  exact congrArg (fun p => startE p i j) (funext fun k => head_params m c b _)

theorem entry_rows : wantRows (entryContents preI m c) b = rowsE (marginsR m c b) (eight m c b) := by
  funext i
  refine (rowSums_read (head m c) b i).trans ?_
  rw [head_rows, head_params, head_params]
  fin_cases i <;> simp only [sharesE, rowsE, Fin.zero_eta, Fin.mk_one, Fin.reduceFinMk, Matrix.cons_val, mul_one] <;> rfl

theorem entry_cols : wantCols (entryContents preI m c) b = colsE (marginsR m c b) (eight m c b) := by
  funext j
  refine (colSums_read (head m c) b j).trans ?_
  rw [head_cols, head_params, head_params]
  fin_cases j <;> simp only [sharesE, colsE, Fin.zero_eta, Fin.mk_one, Fin.reduceFinMk, Matrix.cons_val, mul_one] <;> rfl

/-- The matrix the loop ends with. -/
theorem end_matrix (i j : Fin 3) : (atEnd m c (Proc.devRef .tc main_v81_3) : FVec Ideal S1048576x3x3 .f32) (ix3 b i j) =
    matE (marginsR m c b) (eight m c b) i j := by
  have h1 : atEnd m c (Proc.devRef .tc main_v81_3) = (STEP^[10] (entryContents preI m c)) (Proc.devRef .tc main_v81_3) :=
    (cond_keeps (atK m 10 c) main_v81_3 (by decide)).trans (atK_agree m c 10 main_v81_3 (by decide))
  have h2 := (carried_steps (entryContents preI m c) b 10).2.2
  rw [entry_start, entry_rows, entry_cols] at h2
  exact (congrFun h1 (ix3 b i j)).trans (congrFun (congrFun h2 i) j)

theorem end_rowRest : (fun i => (atEnd m c (Proc.devRef .tc main_v75) : FVec Ideal S1048576x3 .f32) (ix2 b i)) =
    ![marginsR m c b 0 * (1 - shareE (eight m c b 4)), marginsR m c b 1 * (1 - shareE (eight m c b 5)),
      marginsR m c b 2 * (1 - 1)] := by
  funext i
  refine (congrFun (end_keeps m c main_v75 (by decide +kernel) (by decide +kernel)) (ix2 b i)).trans ?_
  refine (rowRest_read (head m c) b i).trans ?_
  rw [head_rows, head_params, head_params]
  fin_cases i <;> simp only [sharesE, Fin.zero_eta, Fin.mk_one, Fin.reduceFinMk, Matrix.cons_val] <;> rfl

theorem end_colRest : (fun j => (atEnd m c (Proc.devRef .tc main_v78) : FVec Ideal S1048576x3 .f32) (ix2 b j)) =
    ![marginsR m c b 3 * (1 - shareE (eight m c b 6)), marginsR m c b 4 * (1 - shareE (eight m c b 7)),
      marginsR m c b 5 * (1 - 1)] := by
  funext j
  refine (congrFun (end_keeps m c main_v78 (by decide +kernel) (by decide +kernel)) (ix2 b j)).trans ?_
  refine (colRest_read (head m c) b j).trans ?_
  rw [head_cols, head_params, head_params]
  fin_cases j <;> simp only [sharesE, Fin.zero_eta, Fin.mk_one, Fin.reduceFinMk, Matrix.cons_val] <;> rfl

/-- The reference's table at an entry, where the margins are finite. -/
theorem table_end (ht : ∀ k, marginsR m c b k ≠ ⊤) (hb : ∀ k, marginsR m c b k ≠ ⊥) (i j : Fin 4) :
    (after hostOps0_5 (atEnd m c) (Proc.devRef .tc main_v87) : FVec Ideal S1048576x4x4 .f32) (ix3 b i j) =
      outE (marginsR m c b) (eight m c b) i j := by
  have hA := funext fun i => funext fun j => end_matrix m c b i j
  rw [outE_eq _ _ ht hb]
  refine (table_read (atEnd m c) b i j).trans ?_
  exact congrFun (congrFun (congr (congr (congrArg layE hA) (end_rowRest m c b)) (end_colRest m c b)) i) j

end Cert.RefSide

end
-- ==== Proof.Equal.lean ====
/- The two programs over the extended reals: from equal arguments with finite margins, equal results. -/
module

public import proofs.«01_k».proof.Defs
public import proofs.«01_k».proof.Proof.Results
public import proofs.«01_k».proof.Proof.RefValue
public import proofs.«01_k».proof.Proof.Gen.Pre_margins_finite
public import Idealize.ShloMosaic.Lib.KernelVsHost

@[expose] public section

set_option maxRecDepth 16384

noncomputable section

namespace Cert.Both

open Idealize.ShloMosaic Idealize.ShloMosaic.TcCoe Idealize.ShloMosaic.StableHlo

/-- What the comparison with infinity says of one number. -/
theorem finite_of_lt (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  rw [← Ideal.xori_weird_eq_hostAbsf_olt_inf] at h
  by_contra hx
  have hw : FloatOps.weird x = 1#1 := by
    show BitVec.ofBool (decide ((x : EReal) = ⊤ ∨ (x : EReal) = ⊥)) = 1#1
    rw [decide_eq_true (by tauto)]
    rfl
  rw [hw] at h
  exact absurd h (by decide)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

theorem margins_finite (h : Pre_KernelIdeal_margins_finite m) (c : Dev KernelIdeal.nD) (b : Fin 1048576) (k : Fin 8) :
    Tile.marginsK m c b k ≠ ⊤ ∧ Tile.marginsK m c b k ≠ ⊥ :=
  finite_of_lt _ (congrFun (h c) (ix2 b k))

/-- The arguments of the two programs agree. -/
def SameArgs (c : Dev KernelIdeal.nD) : Prop :=
  m' ((c.tc : Thread ReferenceIdeal.nD ReferenceIdeal.τ).loc ReferenceIdeal.main_arg0) =
      m ((c.tc : Thread KernelIdeal.nD KernelIdeal.τ).loc KernelIdeal.main_arg0)
  ∧ m' ((c.tc : Thread ReferenceIdeal.nD ReferenceIdeal.τ).loc ReferenceIdeal.main_arg1) =
      m ((c.tc : Thread KernelIdeal.nD KernelIdeal.τ).loc KernelIdeal.main_arg1)
  ∧ m' ((c.tc : Thread ReferenceIdeal.nD ReferenceIdeal.τ).loc ReferenceIdeal.main_arg2) =
      m ((c.tc : Thread KernelIdeal.nD KernelIdeal.τ).loc KernelIdeal.main_arg2)
  ∧ m' ((c.tc : Thread ReferenceIdeal.nD ReferenceIdeal.τ).loc ReferenceIdeal.main_arg3) =
      m ((c.tc : Thread KernelIdeal.nD KernelIdeal.τ).loc KernelIdeal.main_arg3)
  ∧ m' ((c.tc : Thread ReferenceIdeal.nD ReferenceIdeal.τ).loc ReferenceIdeal.main_arg4) =
      m ((c.tc : Thread KernelIdeal.nD KernelIdeal.τ).loc KernelIdeal.main_arg4)
  ∧ m' ((c.tc : Thread ReferenceIdeal.nD ReferenceIdeal.τ).loc ReferenceIdeal.main_arg5) =
      m ((c.tc : Thread KernelIdeal.nD KernelIdeal.τ).loc KernelIdeal.main_arg5)
  ∧ m' ((c.tc : Thread ReferenceIdeal.nD ReferenceIdeal.τ).loc ReferenceIdeal.main_arg6) =
      m ((c.tc : Thread KernelIdeal.nD KernelIdeal.τ).loc KernelIdeal.main_arg6)

variable {m m'}

theorem margins_same {c : Dev KernelIdeal.nD} (h : SameArgs m m' c) (b : Fin 1048576) :
    RefSide.marginsR m' c b = Tile.marginsK m c b := funext fun a => congrFun h.1 (ix2 b a)

theorem params_same {c : Dev KernelIdeal.nD} (h : SameArgs m m' c) (b : Fin 1048576) :
    RefSide.paramsR m' c b = Tile.paramsK m c b := by
  have hx := margins_same h b
  obtain ⟨-, h1, h2, h3, h4, h5, h6⟩ := h
  funext k
  unfold RefSide.paramsR Tile.paramsK RefSide.M Tile.M
  rw [hx, h1, h2, h3, h4, h5, h6]

theorem table_entry (hp : Pre_KernelIdeal_margins_finite m) {c : Dev KernelIdeal.nD} (h : SameArgs m m' c)
    (b : Fin 1048576) (i j : Fin 4) :
    (after ReferenceIdeal.Gen.hostOps0_5 (RefSide.atEnd m' c) (Proc.devRef .tc ReferenceIdeal.main_v87) :
      FVec Ideal ReferenceIdeal.S1048576x4x4 .f32) (ix3 b i j) = Tile.tableOut m c (ix3 b i j) := by
  have hx := margins_same h b
  refine (RefSide.table_end m' c b (fun k => ?_) (fun k => ?_) i j).trans ?_
  · rw [hx]; exact (margins_finite m hp c b k).1
  · rw [hx]; exact (margins_finite m hp c b k).2
  · rw [hx, show RefSide.eight m' c b = fun k => Tile.paramsK m c b ⟨k.val, by omega⟩ from
      funext fun k => congrFun (params_same h b) _]
    rfl

theorem tables_same (hp : Pre_KernelIdeal_margins_finite m) {c : Dev KernelIdeal.nD} (h : SameArgs m m' c) :
    after ReferenceIdeal.Gen.hostOps0_5 (RefSide.atEnd m' c) (Proc.devRef .tc ReferenceIdeal.main_v87) = Tile.tableOut m c := by
  funext y
  rw [eq_ix3 y]
  exact table_entry hp h _ _ _

theorem values_same {c : Dev KernelIdeal.nD} (h : SameArgs m m' c) :
    entryContents ReferenceIdeal.Value.preI m' c (Proc.devRef .tc ReferenceIdeal.main_v67) = Tile.valueOut m c := by
  funext y
  rw [eq_ix1 y]
  refine (RefSide.value_entry m' c _).trans ?_
  exact congrArg Ideal.exp (congrFun (params_same h _) 8)

theorem equal : algebraic_KernelIdeal_ReferenceIdeal_pre_margins_finite := by
  intro m g m' g' hp hs
  refine ⟨Tile.tableOut m, Tile.valueOut m, ?_, ?_⟩
  · exact (θ_run _ _ _).mono (fun r h c => ⟨(h.1 c).1, (h.1 c).2, h.2 c⟩)
      (θ_run_and (Tile.results_run m g) (KernelIdeal.Gen.unchanged m g))
  · exact (θ_run _ _ _).mono (fun r h c =>
      ⟨(h.1 c).1.trans (tables_same hp (hs c)), (h.1 c).2.trans (values_same (hs c)), h.2.1 c⟩) (RefSide.run m' g')

end Cert.Both

end
-- ==== Proof.lean ====
module

public import proofs.«01_k».proof.Defs
public import proofs.«01_k».proof.Proof.Gen.Kernel.Frame
public import proofs.«01_k».proof.Proof.Equal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_margins_finite.Gen.facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun _ h => h.2) (Cert.RefSide.run m ρ),
    fun m ρ _ => (θ_run _ _ _).mono (fun _ h => h.2) (Cert.RefSide.run m ρ),
    trivial, Cert.Both.equal⟩

end Cert.Proof

end
